-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decoder_inputs [hPre_decoder_inputs : Cert.Pre_decoder_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_decoder_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_decoder_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_decoder_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_decoder_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_decoder_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_decoder_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decoder_inputs [hPre_decoder_inputs : Cert.Pre_decoder_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decoder_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_decoder_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_decoder_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_decoder_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_decoder_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_decoder_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decoder_inputs [hKernelIdeal : Cert.KernelIdeal.Facts] [hPre_decoder_inputs : Cert.Pre_decoder_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decoder_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decoder_inputs [hReferenceIdeal : Cert.ReferenceIdeal.Facts] [hPre_decoder_inputs : Cert.Pre_decoder_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decoder_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_decoder_inputs [hKernelIdeal : Cert.KernelIdeal.Facts] [hReferenceIdeal : Cert.ReferenceIdeal.Facts] [hPre_decoder_inputs : Cert.Pre_decoder_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decoder_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_decoder_inputs : Cert.Pre_decoder_inputs.Facts),
    quiescent_Kernel (hKernel := hKernel)
    ∧ quiescent_KernelIdeal (hKernelIdeal := hKernelIdeal)
    ∧ quiescent_KernelIdeal_pre_decoder_inputs (hKernelIdeal := hKernelIdeal) (hPre_decoder_inputs := hPre_decoder_inputs)
    ∧ quiescent_ReferenceIdeal (hReferenceIdeal := hReferenceIdeal)
    ∧ quiescent_ReferenceIdeal_pre_decoder_inputs (hReferenceIdeal := hReferenceIdeal) (hPre_decoder_inputs := hPre_decoder_inputs)
    ∧ preserves_Kernel_KernelIdeal
    ∧ algebraic_KernelIdeal_ReferenceIdeal_pre_decoder_inputs (hKernelIdeal := hKernelIdeal) (hReferenceIdeal := hReferenceIdeal) (hPre_decoder_inputs := hPre_decoder_inputs)
-- ==== Pre_decoder_inputs.lean ====
abbrev S255x2048 : Shape := ⟨2, ![255, 2048]⟩
abbrev S1 : Shape := ⟨1, ![1]⟩
abbrev S1024 : Shape := ⟨1, ![1024]⟩
abbrev S30x255 : Shape := ⟨2, ![30, 255]⟩
abbrev S_ : Shape := ⟨0, ![]⟩
abbrev S128x8 : Shape := ⟨2, ![128, 8]⟩
abbrev S128 : Shape := ⟨1, ![128]⟩
abbrev S128x1 : Shape := ⟨2, ![128, 1]⟩
abbrev S255 : Shape := ⟨1, ![255]⟩
abbrev S30x255x1 : Shape := ⟨3, ![30, 255, 1]⟩
abbrev S1x1x255 : Shape := ⟨3, ![1, 1, 255]⟩
abbrev S30x255x255 : Shape := ⟨3, ![30, 255, 255]⟩
abbrev S30x1x255 : Shape := ⟨3, ![30, 1, 255]⟩
abbrev S1x255x1 : Shape := ⟨3, ![1, 255, 1]⟩

class Facts : Prop where
  bcast_S_S255x2048 : S_.BroadcastsInDim S255x2048 (![] : Fin 0 → Fin S255x2048.rank)
  bcast_S_S1024 : S_.BroadcastsInDim S1024 (![] : Fin 0 → Fin S1024.rank)
  shapeCasts_S1024_S128x8 : S1024.ShapeCasts S128x8
  bcast_S128_S128x1_0 : S128.BroadcastsInDim S128x1 (![0] : Fin 1 → Fin S128x1.rank)
  bcast_S128x1_S128x8_0_1 : S128x1.BroadcastsInDim S128x8 (![0, 1] : Fin 2 → Fin S128x8.rank)
  bcast_S_S30x255 : S_.BroadcastsInDim S30x255 (![] : Fin 0 → Fin S30x255.rank)
  bcast_S30x255_S30x255x1_0_1 : S30x255.BroadcastsInDim S30x255x1 (![0, 1] : Fin 2 → Fin S30x255x1.rank)
  bcast_S255_S1x1x255_2 : S255.BroadcastsInDim S1x1x255 (![2] : Fin 1 → Fin S1x1x255.rank)
  bcast_S30x255x1_S30x255x255_0_1_2 : S30x255x1.BroadcastsInDim S30x255x255 (![0, 1, 2] : Fin 3 → Fin S30x255x255.rank)
  bcast_S1x1x255_S30x255x255_0_1_2 : S1x1x255.BroadcastsInDim S30x255x255 (![0, 1, 2] : Fin 3 → Fin S30x255x255.rank)
  bcast_S30x255_S30x1x255_0_2 : S30x255.BroadcastsInDim S30x1x255 (![0, 2] : Fin 2 → Fin S30x1x255.rank)
  bcast_S255_S1x255x1_1 : S255.BroadcastsInDim S1x255x1 (![1] : Fin 1 → Fin S1x255x1.rank)
  bcast_S30x1x255_S30x255x255_0_1_2 : S30x1x255.BroadcastsInDim S30x255x255 (![0, 1, 2] : Fin 3 → Fin S30x255x255.rank)
  bcast_S1x255x1_S30x255x255_0_1_2 : S1x255x1.BroadcastsInDim S30x255x255 (![0, 1, 2] : Fin 3 → Fin S30x255x255.rank)

variable [Facts]

def fn_part1 {F : FTy → Type} [FloatOps F] (main_arg4 : IVec S30x255 32) (main_arg5 : IVec S30x255 32) (main_v2 : IVec S255x2048 1) (main_v7 : IVec S1024 1) (main_v12 : IVec S128x8 1) (main_v17 : IVec S30x255 1) (main_c_3 : IVec S_ 32) : IVec S255x2048 1 × IVec S1024 1 × IVec S128x8 1 × IVec S30x255 1 × IVec S30x255 1 × IVec S30x255x255 1 :=
  let main_v18 : IVec S30x255 32 := broadcastInDim S30x255 ![] bcast_S_S30x255 main_c_3
  let main_v19 : IVec S30x255 1 := cmpi .sge main_arg5 main_v18
  let main_c_4 : IVec S_ 32 := constantI S_ 32 255#32
  let main_v20 : IVec S30x255 32 := broadcastInDim S30x255 ![] bcast_S_S30x255 main_c_4
  let main_v21 : IVec S30x255 1 := cmpi .slt main_arg5 main_v20
  let main_v22 : IVec S30x255 1 := andi main_v19 main_v21
  let main_v23 : IVec S255 32 := iotaInDim S255 32 0
  let main_v24 : IVec S30x255x1 32 := broadcastInDim S30x255x1 ![0, 1] bcast_S30x255_S30x255x1_0_1 main_arg4
  let main_v25 : IVec S1x1x255 32 := broadcastInDim S1x1x255 ![2] bcast_S255_S1x1x255_2 main_v23
  let main_v26 : IVec S30x255x255 32 := broadcastInDim S30x255x255 ![0, 1, 2] bcast_S30x255x1_S30x255x255_0_1_2 main_v24
  let main_v27 : IVec S30x255x255 32 := broadcastInDim S30x255x255 ![0, 1, 2] bcast_S1x1x255_S30x255x255_0_1_2 main_v25
  let main_v28 : IVec S30x255x255 1 := cmpi .eq main_v26 main_v27
  let main_v29 : IVec S30x1x255 32 := broadcastInDim S30x1x255 ![0, 2] bcast_S30x255_S30x1x255_0_2 main_arg5
  let main_v30 : IVec S1x255x1 32 := broadcastInDim S1x255x1 ![1] bcast_S255_S1x255x1_1 main_v23
  let main_v31 : IVec S30x255x255 32 := broadcastInDim S30x255x255 ![0, 1, 2] bcast_S30x1x255_S30x255x255_0_1_2 main_v29
  let main_v32 : IVec S30x255x255 32 := broadcastInDim S30x255x255 ![0, 1, 2] bcast_S1x255x1_S30x255x255_0_1_2 main_v30
  let main_v33 : IVec S30x255x255 1 := cmpi .eq main_v31 main_v32
  let main_v34 : IVec S30x255x255 1 := cmpi .eq main_v28 main_v33
  (main_v2, main_v7, main_v12, main_v17, main_v22, main_v34)

def fn {F : FTy → Type} [FloatOps F] (main_arg0 : FVec F S255x2048 .f32) (main_arg1 : FVec F S1 .f32) (main_arg2 : IVec S1024 32) (main_arg3 : IVec S1024 32) (main_arg4 : IVec S30x255 32) (main_arg5 : IVec S30x255 32) : IVec S255x2048 1 × IVec S1024 1 × IVec S128x8 1 × IVec S30x255 1 × IVec S30x255 1 × IVec S30x255x255 1 :=
  let main_v0 : FVec F S255x2048 .f32 := Host.absf main_arg0
  let main_cst : FVec F S_ .f32 := constant S_ .f32 0x7F800000#32
  let main_v1 : FVec F S255x2048 .f32 := broadcastInDim S255x2048 ![] bcast_S_S255x2048 main_cst
  let main_v2 : IVec S255x2048 1 := cmpf .olt main_v0 main_v1
  let main_c : IVec S_ 32 := constantI S_ 32 0#32
  let main_v3 : IVec S1024 32 := broadcastInDim S1024 ![] bcast_S_S1024 main_c
  let main_v4 : IVec S1024 1 := cmpi .sge main_arg2 main_v3
  let main_c_0 : IVec S_ 32 := constantI S_ 32 255#32
  let main_v5 : IVec S1024 32 := broadcastInDim S1024 ![] bcast_S_S1024 main_c_0
  let main_v6 : IVec S1024 1 := cmpi .slt main_arg2 main_v5
  let main_v7 : IVec S1024 1 := andi main_v4 main_v6
  let main_v8 : IVec S128x8 32 := shapeCast S128x8 main_arg3 shapeCasts_S1024_S128x8
  let main_v9 : IVec S128 32 := iotaInDim S128 32 0
  let main_v10 : IVec S128x1 32 := broadcastInDim S128x1 ![0] bcast_S128_S128x1_0 main_v9
  let main_v11 : IVec S128x8 32 := broadcastInDim S128x8 ![0, 1] bcast_S128x1_S128x8_0_1 main_v10
  let main_v12 : IVec S128x8 1 := cmpi .eq main_v8 main_v11
  let main_c_1 : IVec S_ 32 := constantI S_ 32 0#32
  let main_v13 : IVec S30x255 32 := broadcastInDim S30x255 ![] bcast_S_S30x255 main_c_1
  let main_v14 : IVec S30x255 1 := cmpi .sge main_arg4 main_v13
  let main_c_2 : IVec S_ 32 := constantI S_ 32 255#32
  let main_v15 : IVec S30x255 32 := broadcastInDim S30x255 ![] bcast_S_S30x255 main_c_2
  let main_v16 : IVec S30x255 1 := cmpi .slt main_arg4 main_v15
  let main_v17 : IVec S30x255 1 := andi main_v14 main_v16
  let main_c_3 : IVec S_ 32 := constantI S_ 32 0#32
  fn_part1 (F := F) main_arg4 main_arg5 main_v2 main_v7 main_v12 main_v17 main_c_3
-- ==== Kernel.lean ====
abbrev S255x2048 : Shape := ⟨2, ![255, 2048]⟩
abbrev S1 : Shape := ⟨1, ![1]⟩
abbrev S1024 : Shape := ⟨1, ![1024]⟩
abbrev S30x255 : Shape := ⟨2, ![30, 255]⟩
abbrev S_ : Shape := ⟨0, ![]⟩
abbrev S1x1 : Shape := ⟨2, ![1, 1]⟩
abbrev S1024x1 : Shape := ⟨2, ![1024, 1]⟩
abbrev S30x1024 : Shape := ⟨2, ![30, 1024]⟩
abbrev S30x1x1024 : Shape := ⟨3, ![30, 1, 1024]⟩
abbrev S1x2048 : Shape := ⟨2, ![1, 2048]⟩
abbrev S256x2048 : Shape := ⟨2, ![256, 2048]⟩
abbrev S30x256x2048 : Shape := ⟨3, ![30, 256, 2048]⟩
abbrev S256x512 : Shape := ⟨2, ![256, 512]⟩
abbrev S30x256x512 : Shape := ⟨3, ![30, 256, 512]⟩
abbrev S256x1024 : Shape := ⟨2, ![256, 1024]⟩
abbrev S1x1x1024 : Shape := ⟨3, ![1, 1, 1024]⟩
abbrev S1x1024 : Shape := ⟨2, ![1, 1024]⟩
abbrev S1024x512 : Shape := ⟨2, ![1024, 512]⟩
abbrev S128x8x512 : Shape := ⟨3, ![128, 8, 512]⟩
abbrev S128x512 : Shape := ⟨2, ![128, 512]⟩
abbrev S128x1x512 : Shape := ⟨3, ![128, 1, 512]⟩
abbrev S1x256x512 : Shape := ⟨3, ![1, 256, 512]⟩
abbrev S30x255x2048 : Shape := ⟨3, ![30, 255, 2048]⟩

abbrev nBuf : Space → Nat
  | .hbm => 30
  | .vmem => 5
  | .smem => 1
  | _ => 0

abbrev bufTy : (tb : Table) → Fin (tcTables nBuf tb) → BufTy
  | .hbm, ⟨0, _⟩ => ⟨S255x2048, .f32⟩
  | .hbm, ⟨1, _⟩ => ⟨S1, .f32⟩
  | .hbm, ⟨2, _⟩ => ⟨S1024, .i32⟩
  | .hbm, ⟨3, _⟩ => ⟨S1024, .i32⟩
  | .hbm, ⟨4, _⟩ => ⟨S30x255, .i32⟩
  | .hbm, ⟨5, _⟩ => ⟨S30x255, .i32⟩
  | .hbm, ⟨6, _⟩ => ⟨S1, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S30x1024, .i32⟩
  | .hbm, ⟨24, _⟩ => ⟨S30x1x1024, .i32⟩
  | .hbm, ⟨25, _⟩ => ⟨S_, .f32⟩
  | .hbm, ⟨26, _⟩ => ⟨S1x2048, .f32⟩
  | .hbm, ⟨27, _⟩ => ⟨S256x2048, .f32⟩
  | .hbm, ⟨28, _⟩ => ⟨S30x256x2048, .f32⟩
  | .hbm, ⟨29, _⟩ => ⟨S30x255x2048, .f32⟩
  | .local _ .vmem, ⟨0, _⟩ => ⟨S30x1x1024, .i32⟩
  | .local _ .vmem, ⟨1, _⟩ => ⟨S256x512, .f32⟩
  | .local _ .vmem, ⟨2, _⟩ => ⟨S256x512, .f32⟩
  | .local _ .vmem, ⟨3, _⟩ => ⟨S30x256x512, .f32⟩
  | .local _ .vmem, ⟨4, _⟩ => ⟨S30x256x512, .f32⟩
  | .local _ .smem, ⟨0, _⟩ => ⟨S1x1, .f32⟩
  | _, _ => ⟨S255x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c30_i32 : BitVec 32 := 30#32
  let v5 : BitVec 32 := Scalar.addi c0_i32 c30_i32
  let c1_i32 : BitVec 32 := 1#32
  ⟨c0_i32, v5, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v10 : Index := Scalar.indexCast arg5
  let c0_4 : Index := 0#32
  let c0_5 : Index := 0#32
  ![v10.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v255 : Index := Scalar.indexCast arg5
  let c0_77 : Index := 0#32
  let c0_78 : Index := 0#32
  ![v255.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S30x1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S30x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S255x2048 : Shape := ⟨2, ![255, 2048]⟩
abbrev S1 : Shape := ⟨1, ![1]⟩
abbrev S1024 : Shape := ⟨1, ![1024]⟩
abbrev S30x255 : Shape := ⟨2, ![30, 255]⟩
abbrev S_ : Shape := ⟨0, ![]⟩
abbrev S30x255x2048 : Shape := ⟨3, ![30, 255, 2048]⟩
abbrev S1x255 : Shape := ⟨2, ![1, 255]⟩
abbrev S255 : Shape := ⟨1, ![255]⟩
abbrev S255x1 : Shape := ⟨2, ![255, 1]⟩
abbrev S1024x2048 : Shape := ⟨2, ![1024, 2048]⟩
abbrev S1024x1 : Shape := ⟨2, ![1024, 1]⟩
abbrev S128x2048 : Shape := ⟨2, ![128, 2048]⟩
abbrev S1x255x2048 : Shape := ⟨3, ![1, 255, 2048]⟩

abbrev nBuf : Space → Nat
  | .hbm => 405
  | .vmem => 0
  | .smem => 0
  | _ => 0

abbrev hbmTy0_0 (i : Nat) : BufTy := match i % 128 with
  | 0 => ⟨S255x2048, .f32⟩
  | 1 => ⟨S1, .f32⟩
  | 2 => ⟨S1024, .i32⟩
  | 3 => ⟨S1024, .i32⟩
  | 4 => ⟨S30x255, .i32⟩
  | 5 => ⟨S30x255, .i32⟩
  | 6 => ⟨S1, .f32⟩
  | 7 => ⟨S1, .f32⟩
  | 8 => ⟨S_, .f32⟩
  | 9 => ⟨S1, .f32⟩
  | 10 => ⟨S1, .f32⟩
  | 11 => ⟨S_, .f32⟩
  | 12 => ⟨S1, .f32⟩
  | 13 => ⟨S1, .f32⟩
  | 14 => ⟨S_, .f32⟩
  | 15 => ⟨S_, .f32⟩
  | 16 => ⟨S255x2048, .f32⟩
  | 17 => ⟨S_, .f32⟩
  | 18 => ⟨S30x255x2048, .f32⟩
  | 19 => ⟨S_, .i32⟩
  | 20 => ⟨S30x255, .i32⟩
  | 21 => ⟨S30x255, .i32⟩
  | 22 => ⟨S_, .f32⟩
  | 23 => ⟨S1024, .i32⟩
  | 24 => ⟨S1024, .i32⟩
  | 25 => ⟨S_, .i32⟩
  | 26 => ⟨S255x2048, .f32⟩
  | 27 => ⟨S255x2048, .f32⟩
  | 28 => ⟨S30x255x2048, .f32⟩
  | 29 => ⟨S_, .i32⟩
  | 30 => ⟨S_, .i1⟩
  | 31 => ⟨S_, .i32⟩
  | 32 => ⟨S1x255, .i32⟩
  | 33 => ⟨S255, .i32⟩
  | 34 => ⟨S_, .i32⟩
  | 35 => ⟨S1x255, .i32⟩
  | 36 => ⟨S255, .i32⟩
  | 37 => ⟨S255x2048, .f32⟩
  | 38 => ⟨S255x2048, .f32⟩
  | 39 => ⟨S255x2048, .f32⟩
  | 40 => ⟨S_, .i32⟩
  | 41 => ⟨S255, .i32⟩
  | 42 => ⟨S255, .i1⟩
  | 43 => ⟨S_, .i32⟩
  | 44 => ⟨S255, .i32⟩
  | 45 => ⟨S255, .i32⟩
  | 46 => ⟨S255, .i32⟩
  | 47 => ⟨S255x1, .i32⟩
  | 48 => ⟨S255x2048, .f32⟩
  | 49 => ⟨S_, .f32⟩
  | 50 => ⟨S1024x2048, .f32⟩
  | 51 => ⟨S_, .f32⟩
  | 52 => ⟨S255x2048, .f32⟩
  | 53 => ⟨S1024x1, .i32⟩
  | 54 => ⟨S255x2048, .f32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S1024x2048, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1024x2048, .f32⟩
  | 73 => ⟨S1024x2048, .f32⟩
  | 74 => ⟨S1024x2048, .f32⟩
  | 75 => ⟨S_, .f32⟩
  | 76 => ⟨S1024x2048, .f32⟩
  | 77 => ⟨S1024x2048, .f32⟩
  | 78 => ⟨S_, .f32⟩
  | 79 => ⟨S_, .f32⟩
  | 80 => ⟨S_, .f32⟩
  | 81 => ⟨S1024x2048, .f32⟩
  | 82 => ⟨S1024x2048, .f32⟩
  | 83 => ⟨S_, .f32⟩
  | 84 => ⟨S1024x2048, .f32⟩
  | 85 => ⟨S1024x2048, .f32⟩
  | 86 => ⟨S1024x2048, .f32⟩
  | 87 => ⟨S1024x2048, .f32⟩
  | 88 => ⟨S_, .f32⟩
  | 89 => ⟨S1024x2048, .f32⟩
  | 90 => ⟨S1024x2048, .f32⟩
  | 91 => ⟨S1024x2048, .f32⟩
  | 92 => ⟨S_, .f32⟩
  | 93 => ⟨S1024x2048, .f32⟩
  | 94 => ⟨S1024x2048, .i1⟩
  | 95 => ⟨S1024x2048, .f32⟩
  | 96 => ⟨S_, .f32⟩
  | 97 => ⟨S128x2048, .f32⟩
  | 98 => ⟨S1024x1, .i32⟩
  | 99 => ⟨S128x2048, .f32⟩
  | 100 => ⟨S_, .f32⟩
  | 101 => ⟨S128x2048, .f32⟩
  | 102 => ⟨S1024x1, .i32⟩
  | 103 => ⟨S128x2048, .f32⟩
  | 104 => ⟨S_, .i32⟩
  | 105 => ⟨S1024, .i32⟩
  | 106 => ⟨S1024, .i1⟩
  | 107 => ⟨S_, .i32⟩
  | 108 => ⟨S1024, .i32⟩
  | 109 => ⟨S1024, .i32⟩
  | 110 => ⟨S1024, .i32⟩
  | 111 => ⟨S1024x1, .i32⟩
  | 112 => ⟨S1024x2048, .f32⟩
  | 113 => ⟨S1024x2048, .f32⟩
  | 114 => ⟨S1024x2048, .f32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024x2048, .f32⟩
  | 124 => ⟨S1024x2048, .f32⟩
  | 125 => ⟨S_, .f32⟩
  | 126 => ⟨S_, .f32⟩
  | 127 => ⟨S1024x2048, .f32⟩
  | _ => ⟨S255x2048, .f32⟩

abbrev hbmTy0_1 (i : Nat) : BufTy := match i % 128 with
  | 0 => ⟨S1024x2048, .f32⟩
  | 1 => ⟨S_, .f32⟩
  | 2 => ⟨S1024x2048, .f32⟩
  | 3 => ⟨S1024x2048, .i1⟩
  | 4 => ⟨S_, .f32⟩
  | 5 => ⟨S1024x2048, .f32⟩
  | 6 => ⟨S1024x2048, .i1⟩
  | 7 => ⟨S_, .f32⟩
  | 8 => ⟨S_, .i1⟩
  | 9 => ⟨S1024x2048, .i1⟩
  | 10 => ⟨S1024x2048, .i1⟩
  | 11 => ⟨S1024x2048, .i1⟩
  | 12 => ⟨S1024x2048, .f32⟩
  | 13 => ⟨S1024x2048, .f32⟩
  | 14 => ⟨S1024x2048, .f32⟩
  | 15 => ⟨S_, .f32⟩
  | 16 => ⟨S1024x2048, .f32⟩
  | 17 => ⟨S1024x2048, .f32⟩
  | 18 => ⟨S_, .f32⟩
  | 19 => ⟨S1024x2048, .f32⟩
  | 20 => ⟨S1024x2048, .f32⟩
  | 21 => ⟨S1024x2048, .f32⟩
  | 22 => ⟨S_, .f32⟩
  | 23 => ⟨S_, .f32⟩
  | 24 => ⟨S_, .f32⟩
  | 25 => ⟨S1024x2048, .f32⟩
  | 26 => ⟨S1024x2048, .f32⟩
  | 27 => ⟨S_, .f32⟩
  | 28 => ⟨S1024x2048, .f32⟩
  | 29 => ⟨S1024x2048, .f32⟩
  | 30 => ⟨S1024x2048, .f32⟩
  | 31 => ⟨S_, .f32⟩
  | 32 => ⟨S1024x2048, .f32⟩
  | 33 => ⟨S1024x2048, .f32⟩
  | 34 => ⟨S_, .f32⟩
  | 35 => ⟨S255x2048, .f32⟩
  | 36 => ⟨S1024x1, .i32⟩
  | 37 => ⟨S255x2048, .f32⟩
  | 38 => ⟨S_, .i32⟩
  | 39 => ⟨S1024, .i32⟩
  | 40 => ⟨S1024, .i1⟩
  | 41 => ⟨S_, .i32⟩
  | 42 => ⟨S1024, .i32⟩
  | 43 => ⟨S1024, .i32⟩
  | 44 => ⟨S1024, .i32⟩
  | 45 => ⟨S1024x1, .i32⟩
  | 46 => ⟨S1024x2048, .f32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S1024x1, .i32⟩
  | 55 => ⟨S1024x2048, .f32⟩
  | 56 => ⟨S1024x2048, .f32⟩
  | 57 => ⟨S1024x2048, .f32⟩
  | 58 => ⟨S_, .f32⟩
  | 59 => ⟨S1024x2048, .f32⟩
  | 60 => ⟨S1024x2048, .f32⟩
  | 61 => ⟨S_, .f32⟩
  | 62 => ⟨S_, .f32⟩
  | 63 => ⟨S_, .f32⟩
  | 64 => ⟨S1024x2048, .f32⟩
  | 65 => ⟨S1024x2048, .f32⟩
  | 66 => ⟨S_, .f32⟩
  | 67 => ⟨S1024x2048, .f32⟩
  | 68 => ⟨S1024x2048, .f32⟩
  | 69 => ⟨S1024x2048, .f32⟩
  | 70 => ⟨S1024x2048, .f32⟩
  | 71 => ⟨S_, .f32⟩
  | 72 => ⟨S1024x2048, .f32⟩
  | 73 => ⟨S1024x2048, .f32⟩
  | 74 => ⟨S1024x2048, .f32⟩
  | 75 => ⟨S_, .f32⟩
  | 76 => ⟨S1024x2048, .f32⟩
  | 77 => ⟨S1024x2048, .i1⟩
  | 78 => ⟨S1024x2048, .f32⟩
  | 79 => ⟨S_, .f32⟩
  | 80 => ⟨S128x2048, .f32⟩
  | 81 => ⟨S1024x1, .i32⟩
  | 82 => ⟨S128x2048, .f32⟩
  | 83 => ⟨S_, .f32⟩
  | 84 => ⟨S128x2048, .f32⟩
  | 85 => ⟨S1024x1, .i32⟩
  | 86 => ⟨S128x2048, .f32⟩
  | 87 => ⟨S_, .i32⟩
  | 88 => ⟨S1024, .i32⟩
  | 89 => ⟨S1024, .i1⟩
  | 90 => ⟨S_, .i32⟩
  | 91 => ⟨S1024, .i32⟩
  | 92 => ⟨S1024, .i32⟩
  | 93 => ⟨S1024, .i32⟩
  | 94 => ⟨S1024x1, .i32⟩
  | 95 => ⟨S1024x2048, .f32⟩
  | 96 => ⟨S1024x2048, .f32⟩
  | 97 => ⟨S1024x2048, .f32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1024x2048, .f32⟩
  | 107 => ⟨S1024x2048, .f32⟩
  | 108 => ⟨S_, .f32⟩
  | 109 => ⟨S_, .f32⟩
  | 110 => ⟨S1024x2048, .f32⟩
  | 111 => ⟨S1024x2048, .f32⟩
  | 112 => ⟨S_, .f32⟩
  | 113 => ⟨S1024x2048, .f32⟩
  | 114 => ⟨S1024x2048, .i1⟩
  | 115 => ⟨S_, .f32⟩
  | 116 => ⟨S1024x2048, .f32⟩
  | 117 => ⟨S1024x2048, .i1⟩
  | 118 => ⟨S_, .f32⟩
  | 119 => ⟨S_, .i1⟩
  | 120 => ⟨S1024x2048, .i1⟩
  | 121 => ⟨S1024x2048, .i1⟩
  | 122 => ⟨S1024x2048, .i1⟩
  | 123 => ⟨S1024x2048, .f32⟩
  | 124 => ⟨S1024x2048, .f32⟩
  | 125 => ⟨S1024x2048, .f32⟩
  | 126 => ⟨S_, .f32⟩
  | 127 => ⟨S1024x2048, .f32⟩
  | _ => ⟨S255x2048, .f32⟩

abbrev hbmTy0_2 (i : Nat) : BufTy := match i % 128 with
  | 0 => ⟨S1024x2048, .f32⟩
  | 1 => ⟨S_, .f32⟩
  | 2 => ⟨S1024x2048, .f32⟩
  | 3 => ⟨S1024x2048, .f32⟩
  | 4 => ⟨S1024x2048, .f32⟩
  | 5 => ⟨S_, .f32⟩
  | 6 => ⟨S_, .f32⟩
  | 7 => ⟨S_, .f32⟩
  | 8 => ⟨S1024x2048, .f32⟩
  | 9 => ⟨S1024x2048, .f32⟩
  | 10 => ⟨S_, .f32⟩
  | 11 => ⟨S1024x2048, .f32⟩
  | 12 => ⟨S1024x2048, .f32⟩
  | 13 => ⟨S1024x2048, .f32⟩
  | 14 => ⟨S_, .f32⟩
  | 15 => ⟨S1024x2048, .f32⟩
  | 16 => ⟨S1024x2048, .f32⟩
  | 17 => ⟨S_, .f32⟩
  | 18 => ⟨S255x2048, .f32⟩
  | 19 => ⟨S1024x1, .i32⟩
  | 20 => ⟨S255x2048, .f32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1024x2048, .f32⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S1024x1, .i32⟩
  | 38 => ⟨S1024x2048, .f32⟩
  | 39 => ⟨S1024x2048, .f32⟩
  | 40 => ⟨S1024x2048, .f32⟩
  | 41 => ⟨S_, .f32⟩
  | 42 => ⟨S1024x2048, .f32⟩
  | 43 => ⟨S1024x2048, .f32⟩
  | 44 => ⟨S_, .f32⟩
  | 45 => ⟨S_, .f32⟩
  | 46 => ⟨S_, .f32⟩
  | 47 => ⟨S1024x2048, .f32⟩
  | 48 => ⟨S1024x2048, .f32⟩
  | 49 => ⟨S_, .f32⟩
  | 50 => ⟨S1024x2048, .f32⟩
  | 51 => ⟨S1024x2048, .f32⟩
  | 52 => ⟨S1024x2048, .f32⟩
  | 53 => ⟨S1024x2048, .f32⟩
  | 54 => ⟨S_, .f32⟩
  | 55 => ⟨S1024x2048, .f32⟩
  | 56 => ⟨S1024x2048, .f32⟩
  | 57 => ⟨S1024x2048, .f32⟩
  | 58 => ⟨S_, .f32⟩
  | 59 => ⟨S1024x2048, .f32⟩
  | 60 => ⟨S1024x2048, .i1⟩
  | 61 => ⟨S1024x2048, .f32⟩
  | 62 => ⟨S_, .f32⟩
  | 63 => ⟨S128x2048, .f32⟩
  | 64 => ⟨S1024x1, .i32⟩
  | 65 => ⟨S128x2048, .f32⟩
  | 66 => ⟨S_, .f32⟩
  | 67 => ⟨S128x2048, .f32⟩
  | 68 => ⟨S1024x1, .i32⟩
  | 69 => ⟨S128x2048, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024x2048, .f32⟩
  | 79 => ⟨S1024x2048, .f32⟩
  | 80 => ⟨S1024x2048, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x2048, .f32⟩
  | 90 => ⟨S1024x2048, .f32⟩
  | 91 => ⟨S_, .f32⟩
  | 92 => ⟨S_, .f32⟩
  | 93 => ⟨S1024x2048, .f32⟩
  | 94 => ⟨S1024x2048, .f32⟩
  | 95 => ⟨S_, .f32⟩
  | 96 => ⟨S1024x2048, .f32⟩
  | 97 => ⟨S1024x2048, .i1⟩
  | 98 => ⟨S_, .f32⟩
  | 99 => ⟨S1024x2048, .f32⟩
  | 100 => ⟨S1024x2048, .i1⟩
  | 101 => ⟨S_, .f32⟩
  | 102 => ⟨S_, .i1⟩
  | 103 => ⟨S1024x2048, .i1⟩
  | 104 => ⟨S1024x2048, .i1⟩
  | 105 => ⟨S1024x2048, .i1⟩
  | 106 => ⟨S1024x2048, .f32⟩
  | 107 => ⟨S1024x2048, .f32⟩
  | 108 => ⟨S1024x2048, .f32⟩
  | 109 => ⟨S_, .f32⟩
  | 110 => ⟨S1024x2048, .f32⟩
  | 111 => ⟨S1024x2048, .f32⟩
  | 112 => ⟨S_, .f32⟩
  | 113 => ⟨S1024x2048, .f32⟩
  | 114 => ⟨S1024x2048, .f32⟩
  | 115 => ⟨S1024x2048, .f32⟩
  | 116 => ⟨S_, .f32⟩
  | 117 => ⟨S_, .f32⟩
  | 118 => ⟨S_, .f32⟩
  | 119 => ⟨S1024x2048, .f32⟩
  | 120 => ⟨S1024x2048, .f32⟩
  | 121 => ⟨S_, .f32⟩
  | 122 => ⟨S1024x2048, .f32⟩
  | 123 => ⟨S1024x2048, .f32⟩
  | 124 => ⟨S1024x2048, .f32⟩
  | 125 => ⟨S_, .f32⟩
  | 126 => ⟨S1024x2048, .f32⟩
  | 127 => ⟨S1024x2048, .f32⟩
  | _ => ⟨S255x2048, .f32⟩

abbrev hbmTy0_3 (i : Nat) : BufTy := match i % 128 with
  | 0 => ⟨S_, .f32⟩
  | 1 => ⟨S255x2048, .f32⟩
  | 2 => ⟨S1024x1, .i32⟩
  | 3 => ⟨S255x2048, .f32⟩
  | 4 => ⟨S255x2048, .f32⟩
  | 5 => ⟨S_, .i32⟩
  | 6 => ⟨S255, .i32⟩
  | 7 => ⟨S255, .i1⟩
  | 8 => ⟨S_, .i32⟩
  | 9 => ⟨S255, .i32⟩
  | 10 => ⟨S255, .i32⟩
  | 11 => ⟨S255, .i32⟩
  | 12 => ⟨S255x1, .i32⟩
  | 13 => ⟨S255x2048, .f32⟩
  | 14 => ⟨S255x2048, .f32⟩
  | 15 => ⟨S1x255x2048, .f32⟩
  | 16 => ⟨S_, .i32⟩
  | 17 => ⟨S_, .i32⟩
  | 18 => ⟨S30x255x2048, .f32⟩
  | 19 => ⟨S_, .i32⟩
  | 20 => ⟨S_, .i32⟩
  | _ => ⟨S255x2048, .f32⟩

abbrev hbmTy (i : Nat) : BufTy := match i / 128 with
  | 0 => hbmTy0_0 i
  | 1 => hbmTy0_1 i
  | 2 => hbmTy0_2 i
  | 3 => hbmTy0_3 i
  | _ => ⟨S255x2048, .f32⟩

abbrev bufTy : (tb : Table) → Fin (tcTables nBuf tb) → BufTy
  | .hbm, ⟨i, _⟩ => hbmTy i
  | _, _ => ⟨S255x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_c : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_while0c_c_11 : Ref sig .tc := ⟨.hbm, 29, rfl⟩
abbrev main_while0c_v10 : Ref sig .tc := ⟨.hbm, 30, rfl⟩
abbrev main_while0b_call0_c : Ref sig .tc := ⟨.hbm, 31, rfl⟩
abbrev main_while0b_call0_v0 : Ref sig .tc := ⟨.hbm, 32, rfl⟩
abbrev main_while0b_v10 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_v11 : Ref sig .tc := ⟨.hbm, 36, rfl⟩
abbrev main_while0b_v12 : Ref sig .tc := ⟨.hbm, 37, rfl⟩
abbrev main_while0b_v13 : Ref sig .tc := ⟨.hbm, 38, rfl⟩
abbrev main_while0b_v14 : Ref sig .tc := ⟨.hbm, 39, rfl⟩
abbrev main_while0b_c_11 : Ref sig .tc := ⟨.hbm, 40, rfl⟩
abbrev main_while0b_v15 : Ref sig .tc := ⟨.hbm, 41, rfl⟩
abbrev main_while0b_v16 : Ref sig .tc := ⟨.hbm, 42, rfl⟩
abbrev main_while0b_c_12 : Ref sig .tc := ⟨.hbm, 43, rfl⟩
abbrev main_while0b_v17 : Ref sig .tc := ⟨.hbm, 44, rfl⟩
abbrev main_while0b_v18 : Ref sig .tc := ⟨.hbm, 45, rfl⟩
abbrev main_while0b_v19 : Ref sig .tc := ⟨.hbm, 46, rfl⟩
abbrev main_while0b_v20 : Ref sig .tc := ⟨.hbm, 47, rfl⟩
abbrev main_while0b_v21 : Ref sig .tc := ⟨.hbm, 48, rfl⟩
abbrev main_while0b_cst_13 : Ref sig .tc := ⟨.hbm, 49, rfl⟩
abbrev main_while0b_v22 : Ref sig .tc := ⟨.hbm, 50, rfl⟩
abbrev main_while0b_cst_14 : Ref sig .tc := ⟨.hbm, 51, rfl⟩
abbrev main_while0b_v23 : Ref sig .tc := ⟨.hbm, 52, rfl⟩
abbrev main_while0b_v24 : Ref sig .tc := ⟨.hbm, 53, rfl⟩
abbrev main_while0b_v25 : Ref sig .tc := ⟨.hbm, 54, rfl⟩
abbrev main_while0b_c_15 : Ref sig .tc := ⟨.hbm, 55, rfl⟩
abbrev main_while0b_v26 : Ref sig .tc := ⟨.hbm, 56, rfl⟩
abbrev main_while0b_v27 : Ref sig .tc := ⟨.hbm, 57, rfl⟩
abbrev main_while0b_c_16 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_c_17 : Ref sig .tc := ⟨.hbm, 64, rfl⟩
abbrev main_while0b_v33 : Ref sig .tc := ⟨.hbm, 65, rfl⟩
abbrev main_while0b_v34 : Ref sig .tc := ⟨.hbm, 66, rfl⟩
abbrev main_while0b_c_18 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_cst_19 : Ref sig .tc := ⟨.hbm, 75, rfl⟩
abbrev main_while0b_v42 : Ref sig .tc := ⟨.hbm, 76, rfl⟩
abbrev main_while0b_v43 : Ref sig .tc := ⟨.hbm, 77, rfl⟩
abbrev main_while0b_cst_20 : Ref sig .tc := ⟨.hbm, 78, rfl⟩
abbrev main_while0b_cst_21 : Ref sig .tc := ⟨.hbm, 79, rfl⟩
abbrev main_while0b_call2_v0 : Ref sig .tc := ⟨.hbm, 80, rfl⟩
abbrev main_while0b_call2_v1 : Ref sig .tc := ⟨.hbm, 81, rfl⟩
abbrev main_while0b_call2_v2 : Ref sig .tc := ⟨.hbm, 82, rfl⟩
abbrev main_while0b_call2_v3 : Ref sig .tc := ⟨.hbm, 83, rfl⟩
abbrev main_while0b_call2_v4 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_cst_22 : Ref sig .tc := ⟨.hbm, 88, rfl⟩
abbrev main_while0b_v47 : Ref sig .tc := ⟨.hbm, 89, rfl⟩
abbrev main_while0b_v48 : Ref sig .tc := ⟨.hbm, 90, rfl⟩
abbrev main_while0b_v49 : Ref sig .tc := ⟨.hbm, 91, rfl⟩
abbrev main_while0b_cst_23 : Ref sig .tc := ⟨.hbm, 92, rfl⟩
abbrev main_while0b_v50 : Ref sig .tc := ⟨.hbm, 93, rfl⟩
abbrev main_while0b_v51 : Ref sig .tc := ⟨.hbm, 94, rfl⟩
abbrev main_while0b_v52 : Ref sig .tc := ⟨.hbm, 95, rfl⟩
abbrev main_while0b_cst_24 : Ref sig .tc := ⟨.hbm, 96, rfl⟩
abbrev main_while0b_v53 : Ref sig .tc := ⟨.hbm, 97, rfl⟩
abbrev main_while0b_v54 : Ref sig .tc := ⟨.hbm, 98, rfl⟩
abbrev main_while0b_v55 : Ref sig .tc := ⟨.hbm, 99, rfl⟩
abbrev main_while0b_cst_25 : Ref sig .tc := ⟨.hbm, 100, rfl⟩
abbrev main_while0b_v56 : Ref sig .tc := ⟨.hbm, 101, rfl⟩
abbrev main_while0b_v57 : Ref sig .tc := ⟨.hbm, 102, rfl⟩
abbrev main_while0b_v58 : Ref sig .tc := ⟨.hbm, 103, rfl⟩
abbrev main_while0b_c_26 : Ref sig .tc := ⟨.hbm, 104, rfl⟩
abbrev main_while0b_v59 : Ref sig .tc := ⟨.hbm, 105, rfl⟩
abbrev main_while0b_v60 : Ref sig .tc := ⟨.hbm, 106, rfl⟩
abbrev main_while0b_c_27 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_v64 : Ref sig .tc := ⟨.hbm, 111, rfl⟩
abbrev main_while0b_v65 : Ref sig .tc := ⟨.hbm, 112, rfl⟩
abbrev main_while0b_v66 : Ref sig .tc := ⟨.hbm, 113, rfl⟩
abbrev main_while0b_v67 : Ref sig .tc := ⟨.hbm, 114, rfl⟩
abbrev main_while0b_c_28 : Ref sig .tc := ⟨.hbm, 115, rfl⟩
abbrev main_while0b_v68 : Ref sig .tc := ⟨.hbm, 116, rfl⟩
abbrev main_while0b_v69 : Ref sig .tc := ⟨.hbm, 117, rfl⟩
abbrev main_while0b_c_29 : Ref sig .tc := ⟨.hbm, 118, rfl⟩
abbrev main_while0b_v70 : Ref sig .tc := ⟨.hbm, 119, rfl⟩
abbrev main_while0b_v71 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_v75 : Ref sig .tc := ⟨.hbm, 124, rfl⟩
abbrev main_while0b_cst_30 : Ref sig .tc := ⟨.hbm, 125, rfl⟩
abbrev main_while0b_call3_v0 : Ref sig .tc := ⟨.hbm, 126, rfl⟩
abbrev main_while0b_call3_v1 : Ref sig .tc := ⟨.hbm, 127, rfl⟩
abbrev main_while0b_call3_v2 : Ref sig .tc := ⟨.hbm, 128, rfl⟩
abbrev main_while0b_call3_cst : Ref sig .tc := ⟨.hbm, 129, rfl⟩
abbrev main_while0b_call3_v3 : Ref sig .tc := ⟨.hbm, 130, rfl⟩
abbrev main_while0b_call3_v4 : Ref sig .tc := ⟨.hbm, 131, rfl⟩
abbrev main_while0b_call3_cst_0 : Ref sig .tc := ⟨.hbm, 132, rfl⟩
abbrev main_while0b_call3_v5 : Ref sig .tc := ⟨.hbm, 133, rfl⟩
abbrev main_while0b_call3_v6 : Ref sig .tc := ⟨.hbm, 134, rfl⟩
abbrev main_while0b_call3_cst_1 : Ref sig .tc := ⟨.hbm, 135, rfl⟩
abbrev main_while0b_call3_v7 : Ref sig .tc := ⟨.hbm, 136, rfl⟩
abbrev main_while0b_call3_v8 : Ref sig .tc := ⟨.hbm, 137, rfl⟩
abbrev main_while0b_call3_v9 : Ref sig .tc := ⟨.hbm, 138, rfl⟩
abbrev main_while0b_call3_v10 : Ref sig .tc := ⟨.hbm, 139, rfl⟩
abbrev main_while0b_call3_v11 : Ref sig .tc := ⟨.hbm, 140, rfl⟩
abbrev main_while0b_call3_v12 : Ref sig .tc := ⟨.hbm, 141, rfl⟩
abbrev main_while0b_v76 : Ref sig .tc := ⟨.hbm, 142, rfl⟩
abbrev main_while0b_cst_31 : Ref sig .tc := ⟨.hbm, 143, rfl⟩
abbrev main_while0b_v77 : Ref sig .tc := ⟨.hbm, 144, rfl⟩
abbrev main_while0b_v78 : Ref sig .tc := ⟨.hbm, 145, rfl⟩
abbrev main_while0b_cst_32 : Ref sig .tc := ⟨.hbm, 146, rfl⟩
abbrev main_while0b_v79 : Ref sig .tc := ⟨.hbm, 147, rfl⟩
abbrev main_while0b_v80 : Ref sig .tc := ⟨.hbm, 148, rfl⟩
abbrev main_while0b_v81 : Ref sig .tc := ⟨.hbm, 149, rfl⟩
abbrev main_while0b_cst_33 : Ref sig .tc := ⟨.hbm, 150, rfl⟩
abbrev main_while0b_cst_34 : Ref sig .tc := ⟨.hbm, 151, rfl⟩
abbrev main_while0b_call4_v0 : Ref sig .tc := ⟨.hbm, 152, rfl⟩
abbrev main_while0b_call4_v1 : Ref sig .tc := ⟨.hbm, 153, rfl⟩
abbrev main_while0b_call4_v2 : Ref sig .tc := ⟨.hbm, 154, rfl⟩
abbrev main_while0b_call4_v3 : Ref sig .tc := ⟨.hbm, 155, rfl⟩
abbrev main_while0b_call4_v4 : Ref sig .tc := ⟨.hbm, 156, rfl⟩
abbrev main_while0b_v82 : Ref sig .tc := ⟨.hbm, 157, rfl⟩
abbrev main_while0b_v83 : Ref sig .tc := ⟨.hbm, 158, rfl⟩
abbrev main_while0b_cst_35 : Ref sig .tc := ⟨.hbm, 159, rfl⟩
abbrev main_while0b_v84 : Ref sig .tc := ⟨.hbm, 160, rfl⟩
abbrev main_while0b_v85 : Ref sig .tc := ⟨.hbm, 161, rfl⟩
abbrev main_while0b_cst_36 : Ref sig .tc := ⟨.hbm, 162, rfl⟩
abbrev main_while0b_v86 : Ref sig .tc := ⟨.hbm, 163, rfl⟩
abbrev main_while0b_v87 : Ref sig .tc := ⟨.hbm, 164, rfl⟩
abbrev main_while0b_v88 : Ref sig .tc := ⟨.hbm, 165, rfl⟩
abbrev main_while0b_c_37 : Ref sig .tc := ⟨.hbm, 166, rfl⟩
abbrev main_while0b_v89 : Ref sig .tc := ⟨.hbm, 167, rfl⟩
abbrev main_while0b_v90 : Ref sig .tc := ⟨.hbm, 168, rfl⟩
abbrev main_while0b_c_38 : Ref sig .tc := ⟨.hbm, 169, rfl⟩
abbrev main_while0b_v91 : Ref sig .tc := ⟨.hbm, 170, rfl⟩
abbrev main_while0b_v92 : Ref sig .tc := ⟨.hbm, 171, rfl⟩
abbrev main_while0b_v93 : Ref sig .tc := ⟨.hbm, 172, rfl⟩
abbrev main_while0b_v94 : Ref sig .tc := ⟨.hbm, 173, rfl⟩
abbrev main_while0b_v95 : Ref sig .tc := ⟨.hbm, 174, rfl⟩
abbrev main_while0b_c_39 : Ref sig .tc := ⟨.hbm, 175, rfl⟩
abbrev main_while0b_v96 : Ref sig .tc := ⟨.hbm, 176, rfl⟩
abbrev main_while0b_v97 : Ref sig .tc := ⟨.hbm, 177, rfl⟩
abbrev main_while0b_c_40 : Ref sig .tc := ⟨.hbm, 178, rfl⟩
abbrev main_while0b_v98 : Ref sig .tc := ⟨.hbm, 179, rfl⟩
abbrev main_while0b_v99 : Ref sig .tc := ⟨.hbm, 180, rfl⟩
abbrev main_while0b_v100 : Ref sig .tc := ⟨.hbm, 181, rfl⟩
abbrev main_while0b_v101 : Ref sig .tc := ⟨.hbm, 182, rfl⟩
abbrev main_while0b_v102 : Ref sig .tc := ⟨.hbm, 183, rfl⟩
abbrev main_while0b_v103 : Ref sig .tc := ⟨.hbm, 184, rfl⟩
abbrev main_while0b_v104 : Ref sig .tc := ⟨.hbm, 185, rfl⟩
abbrev main_while0b_cst_41 : Ref sig .tc := ⟨.hbm, 186, rfl⟩
abbrev main_while0b_v105 : Ref sig .tc := ⟨.hbm, 187, rfl⟩
abbrev main_while0b_v106 : Ref sig .tc := ⟨.hbm, 188, rfl⟩
abbrev main_while0b_cst_42 : Ref sig .tc := ⟨.hbm, 189, rfl⟩
abbrev main_while0b_cst_43 : Ref sig .tc := ⟨.hbm, 190, rfl⟩
abbrev main_while0b_call5_v0 : Ref sig .tc := ⟨.hbm, 191, rfl⟩
abbrev main_while0b_call5_v1 : Ref sig .tc := ⟨.hbm, 192, rfl⟩
abbrev main_while0b_call5_v2 : Ref sig .tc := ⟨.hbm, 193, rfl⟩
abbrev main_while0b_call5_v3 : Ref sig .tc := ⟨.hbm, 194, rfl⟩
abbrev main_while0b_call5_v4 : Ref sig .tc := ⟨.hbm, 195, rfl⟩
abbrev main_while0b_v107 : Ref sig .tc := ⟨.hbm, 196, rfl⟩
abbrev main_while0b_v108 : Ref sig .tc := ⟨.hbm, 197, rfl⟩
abbrev main_while0b_v109 : Ref sig .tc := ⟨.hbm, 198, rfl⟩
abbrev main_while0b_cst_44 : Ref sig .tc := ⟨.hbm, 199, rfl⟩
abbrev main_while0b_v110 : Ref sig .tc := ⟨.hbm, 200, rfl⟩
abbrev main_while0b_v111 : Ref sig .tc := ⟨.hbm, 201, rfl⟩
abbrev main_while0b_v112 : Ref sig .tc := ⟨.hbm, 202, rfl⟩
abbrev main_while0b_cst_45 : Ref sig .tc := ⟨.hbm, 203, rfl⟩
abbrev main_while0b_v113 : Ref sig .tc := ⟨.hbm, 204, rfl⟩
abbrev main_while0b_v114 : Ref sig .tc := ⟨.hbm, 205, rfl⟩
abbrev main_while0b_v115 : Ref sig .tc := ⟨.hbm, 206, rfl⟩
abbrev main_while0b_cst_46 : Ref sig .tc := ⟨.hbm, 207, rfl⟩
abbrev main_while0b_v116 : Ref sig .tc := ⟨.hbm, 208, rfl⟩
abbrev main_while0b_v117 : Ref sig .tc := ⟨.hbm, 209, rfl⟩
abbrev main_while0b_v118 : Ref sig .tc := ⟨.hbm, 210, rfl⟩
abbrev main_while0b_cst_47 : Ref sig .tc := ⟨.hbm, 211, rfl⟩
abbrev main_while0b_v119 : Ref sig .tc := ⟨.hbm, 212, rfl⟩
abbrev main_while0b_v120 : Ref sig .tc := ⟨.hbm, 213, rfl⟩
abbrev main_while0b_v121 : Ref sig .tc := ⟨.hbm, 214, rfl⟩
abbrev main_while0b_c_48 : Ref sig .tc := ⟨.hbm, 215, rfl⟩
abbrev main_while0b_v122 : Ref sig .tc := ⟨.hbm, 216, rfl⟩
abbrev main_while0b_v123 : Ref sig .tc := ⟨.hbm, 217, rfl⟩
abbrev main_while0b_c_49 : Ref sig .tc := ⟨.hbm, 218, rfl⟩
abbrev main_while0b_v124 : Ref sig .tc := ⟨.hbm, 219, rfl⟩
abbrev main_while0b_v125 : Ref sig .tc := ⟨.hbm, 220, rfl⟩
abbrev main_while0b_v126 : Ref sig .tc := ⟨.hbm, 221, rfl⟩
abbrev main_while0b_v127 : Ref sig .tc := ⟨.hbm, 222, rfl⟩
abbrev main_while0b_v128 : Ref sig .tc := ⟨.hbm, 223, rfl⟩
abbrev main_while0b_v129 : Ref sig .tc := ⟨.hbm, 224, rfl⟩
abbrev main_while0b_v130 : Ref sig .tc := ⟨.hbm, 225, rfl⟩
abbrev main_while0b_c_50 : Ref sig .tc := ⟨.hbm, 226, rfl⟩
abbrev main_while0b_v131 : Ref sig .tc := ⟨.hbm, 227, rfl⟩
abbrev main_while0b_v132 : Ref sig .tc := ⟨.hbm, 228, rfl⟩
abbrev main_while0b_c_51 : Ref sig .tc := ⟨.hbm, 229, rfl⟩
abbrev main_while0b_v133 : Ref sig .tc := ⟨.hbm, 230, rfl⟩
abbrev main_while0b_v134 : Ref sig .tc := ⟨.hbm, 231, rfl⟩
abbrev main_while0b_v135 : Ref sig .tc := ⟨.hbm, 232, rfl⟩
abbrev main_while0b_v136 : Ref sig .tc := ⟨.hbm, 233, rfl⟩
abbrev main_while0b_v137 : Ref sig .tc := ⟨.hbm, 234, rfl⟩
abbrev main_while0b_v138 : Ref sig .tc := ⟨.hbm, 235, rfl⟩
abbrev main_while0b_cst_52 : Ref sig .tc := ⟨.hbm, 236, rfl⟩
abbrev main_while0b_call6_v0 : Ref sig .tc := ⟨.hbm, 237, rfl⟩
abbrev main_while0b_call6_v1 : Ref sig .tc := ⟨.hbm, 238, rfl⟩
abbrev main_while0b_call6_v2 : Ref sig .tc := ⟨.hbm, 239, rfl⟩
abbrev main_while0b_call6_cst : Ref sig .tc := ⟨.hbm, 240, rfl⟩
abbrev main_while0b_call6_v3 : Ref sig .tc := ⟨.hbm, 241, rfl⟩
abbrev main_while0b_call6_v4 : Ref sig .tc := ⟨.hbm, 242, rfl⟩
abbrev main_while0b_call6_cst_0 : Ref sig .tc := ⟨.hbm, 243, rfl⟩
abbrev main_while0b_call6_v5 : Ref sig .tc := ⟨.hbm, 244, rfl⟩
abbrev main_while0b_call6_v6 : Ref sig .tc := ⟨.hbm, 245, rfl⟩
abbrev main_while0b_call6_cst_1 : Ref sig .tc := ⟨.hbm, 246, rfl⟩
abbrev main_while0b_call6_v7 : Ref sig .tc := ⟨.hbm, 247, rfl⟩
abbrev main_while0b_call6_v8 : Ref sig .tc := ⟨.hbm, 248, rfl⟩
abbrev main_while0b_call6_v9 : Ref sig .tc := ⟨.hbm, 249, rfl⟩
abbrev main_while0b_call6_v10 : Ref sig .tc := ⟨.hbm, 250, rfl⟩
abbrev main_while0b_call6_v11 : Ref sig .tc := ⟨.hbm, 251, rfl⟩
abbrev main_while0b_call6_v12 : Ref sig .tc := ⟨.hbm, 252, rfl⟩
abbrev main_while0b_v139 : Ref sig .tc := ⟨.hbm, 253, rfl⟩
abbrev main_while0b_cst_53 : Ref sig .tc := ⟨.hbm, 254, rfl⟩
abbrev main_while0b_v140 : Ref sig .tc := ⟨.hbm, 255, rfl⟩
abbrev main_while0b_v141 : Ref sig .tc := ⟨.hbm, 256, rfl⟩
abbrev main_while0b_cst_54 : Ref sig .tc := ⟨.hbm, 257, rfl⟩
abbrev main_while0b_v142 : Ref sig .tc := ⟨.hbm, 258, rfl⟩
abbrev main_while0b_v143 : Ref sig .tc := ⟨.hbm, 259, rfl⟩
abbrev main_while0b_v144 : Ref sig .tc := ⟨.hbm, 260, rfl⟩
abbrev main_while0b_cst_55 : Ref sig .tc := ⟨.hbm, 261, rfl⟩
abbrev main_while0b_cst_56 : Ref sig .tc := ⟨.hbm, 262, rfl⟩
abbrev main_while0b_call7_v0 : Ref sig .tc := ⟨.hbm, 263, rfl⟩
abbrev main_while0b_call7_v1 : Ref sig .tc := ⟨.hbm, 264, rfl⟩
abbrev main_while0b_call7_v2 : Ref sig .tc := ⟨.hbm, 265, rfl⟩
abbrev main_while0b_call7_v3 : Ref sig .tc := ⟨.hbm, 266, rfl⟩
abbrev main_while0b_call7_v4 : Ref sig .tc := ⟨.hbm, 267, rfl⟩
abbrev main_while0b_v145 : Ref sig .tc := ⟨.hbm, 268, rfl⟩
abbrev main_while0b_v146 : Ref sig .tc := ⟨.hbm, 269, rfl⟩
abbrev main_while0b_cst_57 : Ref sig .tc := ⟨.hbm, 270, rfl⟩
abbrev main_while0b_v147 : Ref sig .tc := ⟨.hbm, 271, rfl⟩
abbrev main_while0b_v148 : Ref sig .tc := ⟨.hbm, 272, rfl⟩
abbrev main_while0b_cst_58 : Ref sig .tc := ⟨.hbm, 273, rfl⟩
abbrev main_while0b_v149 : Ref sig .tc := ⟨.hbm, 274, rfl⟩
abbrev main_while0b_v150 : Ref sig .tc := ⟨.hbm, 275, rfl⟩
abbrev main_while0b_v151 : Ref sig .tc := ⟨.hbm, 276, rfl⟩
abbrev main_while0b_c_59 : Ref sig .tc := ⟨.hbm, 277, rfl⟩
abbrev main_while0b_v152 : Ref sig .tc := ⟨.hbm, 278, rfl⟩
abbrev main_while0b_v153 : Ref sig .tc := ⟨.hbm, 279, rfl⟩
abbrev main_while0b_c_60 : Ref sig .tc := ⟨.hbm, 280, rfl⟩
abbrev main_while0b_v154 : Ref sig .tc := ⟨.hbm, 281, rfl⟩
abbrev main_while0b_v155 : Ref sig .tc := ⟨.hbm, 282, rfl⟩
abbrev main_while0b_v156 : Ref sig .tc := ⟨.hbm, 283, rfl⟩
abbrev main_while0b_v157 : Ref sig .tc := ⟨.hbm, 284, rfl⟩
abbrev main_while0b_v158 : Ref sig .tc := ⟨.hbm, 285, rfl⟩
abbrev main_while0b_c_61 : Ref sig .tc := ⟨.hbm, 286, rfl⟩
abbrev main_while0b_v159 : Ref sig .tc := ⟨.hbm, 287, rfl⟩
abbrev main_while0b_v160 : Ref sig .tc := ⟨.hbm, 288, rfl⟩
abbrev main_while0b_c_62 : Ref sig .tc := ⟨.hbm, 289, rfl⟩
abbrev main_while0b_v161 : Ref sig .tc := ⟨.hbm, 290, rfl⟩
abbrev main_while0b_v162 : Ref sig .tc := ⟨.hbm, 291, rfl⟩
abbrev main_while0b_v163 : Ref sig .tc := ⟨.hbm, 292, rfl⟩
abbrev main_while0b_v164 : Ref sig .tc := ⟨.hbm, 293, rfl⟩
abbrev main_while0b_v165 : Ref sig .tc := ⟨.hbm, 294, rfl⟩
abbrev main_while0b_v166 : Ref sig .tc := ⟨.hbm, 295, rfl⟩
abbrev main_while0b_v167 : Ref sig .tc := ⟨.hbm, 296, rfl⟩
abbrev main_while0b_cst_63 : Ref sig .tc := ⟨.hbm, 297, rfl⟩
abbrev main_while0b_v168 : Ref sig .tc := ⟨.hbm, 298, rfl⟩
abbrev main_while0b_v169 : Ref sig .tc := ⟨.hbm, 299, rfl⟩
abbrev main_while0b_cst_64 : Ref sig .tc := ⟨.hbm, 300, rfl⟩
abbrev main_while0b_cst_65 : Ref sig .tc := ⟨.hbm, 301, rfl⟩
abbrev main_while0b_call8_v0 : Ref sig .tc := ⟨.hbm, 302, rfl⟩
abbrev main_while0b_call8_v1 : Ref sig .tc := ⟨.hbm, 303, rfl⟩
abbrev main_while0b_call8_v2 : Ref sig .tc := ⟨.hbm, 304, rfl⟩
abbrev main_while0b_call8_v3 : Ref sig .tc := ⟨.hbm, 305, rfl⟩
abbrev main_while0b_call8_v4 : Ref sig .tc := ⟨.hbm, 306, rfl⟩
abbrev main_while0b_v170 : Ref sig .tc := ⟨.hbm, 307, rfl⟩
abbrev main_while0b_v171 : Ref sig .tc := ⟨.hbm, 308, rfl⟩
abbrev main_while0b_v172 : Ref sig .tc := ⟨.hbm, 309, rfl⟩
abbrev main_while0b_cst_66 : Ref sig .tc := ⟨.hbm, 310, rfl⟩
abbrev main_while0b_v173 : Ref sig .tc := ⟨.hbm, 311, rfl⟩
abbrev main_while0b_v174 : Ref sig .tc := ⟨.hbm, 312, rfl⟩
abbrev main_while0b_v175 : Ref sig .tc := ⟨.hbm, 313, rfl⟩
abbrev main_while0b_cst_67 : Ref sig .tc := ⟨.hbm, 314, rfl⟩
abbrev main_while0b_v176 : Ref sig .tc := ⟨.hbm, 315, rfl⟩
abbrev main_while0b_v177 : Ref sig .tc := ⟨.hbm, 316, rfl⟩
abbrev main_while0b_v178 : Ref sig .tc := ⟨.hbm, 317, rfl⟩
abbrev main_while0b_cst_68 : Ref sig .tc := ⟨.hbm, 318, rfl⟩
abbrev main_while0b_v179 : Ref sig .tc := ⟨.hbm, 319, rfl⟩
abbrev main_while0b_v180 : Ref sig .tc := ⟨.hbm, 320, rfl⟩
abbrev main_while0b_v181 : Ref sig .tc := ⟨.hbm, 321, rfl⟩
abbrev main_while0b_cst_69 : Ref sig .tc := ⟨.hbm, 322, rfl⟩
abbrev main_while0b_v182 : Ref sig .tc := ⟨.hbm, 323, rfl⟩
abbrev main_while0b_v183 : Ref sig .tc := ⟨.hbm, 324, rfl⟩
abbrev main_while0b_v184 : Ref sig .tc := ⟨.hbm, 325, rfl⟩
abbrev main_while0b_c_70 : Ref sig .tc := ⟨.hbm, 326, rfl⟩
abbrev main_while0b_v185 : Ref sig .tc := ⟨.hbm, 327, rfl⟩
abbrev main_while0b_v186 : Ref sig .tc := ⟨.hbm, 328, rfl⟩
abbrev main_while0b_c_71 : Ref sig .tc := ⟨.hbm, 329, rfl⟩
abbrev main_while0b_v187 : Ref sig .tc := ⟨.hbm, 330, rfl⟩
abbrev main_while0b_v188 : Ref sig .tc := ⟨.hbm, 331, rfl⟩
abbrev main_while0b_v189 : Ref sig .tc := ⟨.hbm, 332, rfl⟩
abbrev main_while0b_v190 : Ref sig .tc := ⟨.hbm, 333, rfl⟩
abbrev main_while0b_v191 : Ref sig .tc := ⟨.hbm, 334, rfl⟩
abbrev main_while0b_v192 : Ref sig .tc := ⟨.hbm, 335, rfl⟩
abbrev main_while0b_v193 : Ref sig .tc := ⟨.hbm, 336, rfl⟩
abbrev main_while0b_c_72 : Ref sig .tc := ⟨.hbm, 337, rfl⟩
abbrev main_while0b_v194 : Ref sig .tc := ⟨.hbm, 338, rfl⟩
abbrev main_while0b_v195 : Ref sig .tc := ⟨.hbm, 339, rfl⟩
abbrev main_while0b_c_73 : Ref sig .tc := ⟨.hbm, 340, rfl⟩
abbrev main_while0b_v196 : Ref sig .tc := ⟨.hbm, 341, rfl⟩
abbrev main_while0b_v197 : Ref sig .tc := ⟨.hbm, 342, rfl⟩
abbrev main_while0b_v198 : Ref sig .tc := ⟨.hbm, 343, rfl⟩
abbrev main_while0b_v199 : Ref sig .tc := ⟨.hbm, 344, rfl⟩
abbrev main_while0b_v200 : Ref sig .tc := ⟨.hbm, 345, rfl⟩
abbrev main_while0b_v201 : Ref sig .tc := ⟨.hbm, 346, rfl⟩
abbrev main_while0b_cst_74 : Ref sig .tc := ⟨.hbm, 347, rfl⟩
abbrev main_while0b_call9_v0 : Ref sig .tc := ⟨.hbm, 348, rfl⟩
abbrev main_while0b_call9_v1 : Ref sig .tc := ⟨.hbm, 349, rfl⟩
abbrev main_while0b_call9_v2 : Ref sig .tc := ⟨.hbm, 350, rfl⟩
abbrev main_while0b_call9_cst : Ref sig .tc := ⟨.hbm, 351, rfl⟩
abbrev main_while0b_call9_v3 : Ref sig .tc := ⟨.hbm, 352, rfl⟩
abbrev main_while0b_call9_v4 : Ref sig .tc := ⟨.hbm, 353, rfl⟩
abbrev main_while0b_call9_cst_0 : Ref sig .tc := ⟨.hbm, 354, rfl⟩
abbrev main_while0b_call9_v5 : Ref sig .tc := ⟨.hbm, 355, rfl⟩
abbrev main_while0b_call9_v6 : Ref sig .tc := ⟨.hbm, 356, rfl⟩
abbrev main_while0b_call9_cst_1 : Ref sig .tc := ⟨.hbm, 357, rfl⟩
abbrev main_while0b_call9_v7 : Ref sig .tc := ⟨.hbm, 358, rfl⟩
abbrev main_while0b_call9_v8 : Ref sig .tc := ⟨.hbm, 359, rfl⟩
abbrev main_while0b_call9_v9 : Ref sig .tc := ⟨.hbm, 360, rfl⟩
abbrev main_while0b_call9_v10 : Ref sig .tc := ⟨.hbm, 361, rfl⟩
abbrev main_while0b_call9_v11 : Ref sig .tc := ⟨.hbm, 362, rfl⟩
abbrev main_while0b_call9_v12 : Ref sig .tc := ⟨.hbm, 363, rfl⟩
abbrev main_while0b_v202 : Ref sig .tc := ⟨.hbm, 364, rfl⟩
abbrev main_while0b_cst_75 : Ref sig .tc := ⟨.hbm, 365, rfl⟩
abbrev main_while0b_v203 : Ref sig .tc := ⟨.hbm, 366, rfl⟩
abbrev main_while0b_v204 : Ref sig .tc := ⟨.hbm, 367, rfl⟩
abbrev main_while0b_cst_76 : Ref sig .tc := ⟨.hbm, 368, rfl⟩
abbrev main_while0b_v205 : Ref sig .tc := ⟨.hbm, 369, rfl⟩
abbrev main_while0b_v206 : Ref sig .tc := ⟨.hbm, 370, rfl⟩
abbrev main_while0b_v207 : Ref sig .tc := ⟨.hbm, 371, rfl⟩
abbrev main_while0b_cst_77 : Ref sig .tc := ⟨.hbm, 372, rfl⟩
abbrev main_while0b_cst_78 : Ref sig .tc := ⟨.hbm, 373, rfl⟩
abbrev main_while0b_call10_v0 : Ref sig .tc := ⟨.hbm, 374, rfl⟩
abbrev main_while0b_call10_v1 : Ref sig .tc := ⟨.hbm, 375, rfl⟩
abbrev main_while0b_call10_v2 : Ref sig .tc := ⟨.hbm, 376, rfl⟩
abbrev main_while0b_call10_v3 : Ref sig .tc := ⟨.hbm, 377, rfl⟩
abbrev main_while0b_call10_v4 : Ref sig .tc := ⟨.hbm, 378, rfl⟩
abbrev main_while0b_v208 : Ref sig .tc := ⟨.hbm, 379, rfl⟩
abbrev main_while0b_v209 : Ref sig .tc := ⟨.hbm, 380, rfl⟩
abbrev main_while0b_cst_79 : Ref sig .tc := ⟨.hbm, 381, rfl⟩
abbrev main_while0b_v210 : Ref sig .tc := ⟨.hbm, 382, rfl⟩
abbrev main_while0b_v211 : Ref sig .tc := ⟨.hbm, 383, rfl⟩
abbrev main_while0b_cst_80 : Ref sig .tc := ⟨.hbm, 384, rfl⟩
abbrev main_while0b_v212 : Ref sig .tc := ⟨.hbm, 385, rfl⟩
abbrev main_while0b_v213 : Ref sig .tc := ⟨.hbm, 386, rfl⟩
abbrev main_while0b_v214 : Ref sig .tc := ⟨.hbm, 387, rfl⟩
abbrev main_while0b_v215 : Ref sig .tc := ⟨.hbm, 388, rfl⟩
abbrev main_while0b_c_81 : Ref sig .tc := ⟨.hbm, 389, rfl⟩
abbrev main_while0b_v216 : Ref sig .tc := ⟨.hbm, 390, rfl⟩
abbrev main_while0b_v217 : Ref sig .tc := ⟨.hbm, 391, rfl⟩
abbrev main_while0b_c_82 : Ref sig .tc := ⟨.hbm, 392, rfl⟩
abbrev main_while0b_v218 : Ref sig .tc := ⟨.hbm, 393, rfl⟩
abbrev main_while0b_v219 : Ref sig .tc := ⟨.hbm, 394, rfl⟩
abbrev main_while0b_v220 : Ref sig .tc := ⟨.hbm, 395, rfl⟩
abbrev main_while0b_v221 : Ref sig .tc := ⟨.hbm, 396, rfl⟩
abbrev main_while0b_v222 : Ref sig .tc := ⟨.hbm, 397, rfl⟩
abbrev main_while0b_v223 : Ref sig .tc := ⟨.hbm, 398, rfl⟩
abbrev main_while0b_call11_v0 : Ref sig .tc := ⟨.hbm, 399, rfl⟩
abbrev main_while0b_call11_c : Ref sig .tc := ⟨.hbm, 400, rfl⟩
abbrev main_while0b_call11_c_0 : Ref sig .tc := ⟨.hbm, 401, rfl⟩
abbrev main_while0b_v224 : Ref sig .tc := ⟨.hbm, 402, rfl⟩
abbrev main_while0b_c_83 : Ref sig .tc := ⟨.hbm, 403, rfl⟩
abbrev main_while0b_v225 : Ref sig .tc := ⟨.hbm, 404, rfl⟩

abbrev nD : Nat := 1
abbrev τ : Topo := Topo.v7x

variable {F : FTy → Type} [FloatOps F]

abbrev main_while0_count : Scf.Loop 32 := ⟨0#32, 30#32, 1#32⟩
-- ==== Proof.Model.lean ====
/- The mathematics both programs are compared to: belief propagation under a random redundant decoder, on the real
   numbers, one batch column at a time. Nothing of either program is mentioned here. -/
module

public import Mathlib.Analysis.SpecialFunctions.Artanh
public import Idealize.ShloMosaic.PureOps.Ideal

@[expose] public section

noncomputable section

namespace Cert.Proof.Bp

open Idealize.ShloMosaic

/-! ### One check-node update -/

/-- The number added to a magnitude before its logarithm is taken (the `f32` nearest `1e-12`). -/
def eps : ℝ := 9223372 / 2 ^ 63

/-- The bound a product of hyperbolic tangents is clipped to (the `f32` nearest `1 - 1e-6`). -/
def bound : ℝ := 16777199 / 16777216

theorem eps_pos : 0 < eps := by unfold eps; norm_num

/-- The hyperbolic tangent of half a log-likelihood, given the half, clipped to `[-15, 15]`. -/
def th (h : ℝ) : ℝ := Real.tanh (min 15 (max (-15) h))

/-- The logarithm of its magnitude. -/
def lmag (h : ℝ) : ℝ := Real.log (|th h| + eps)

/-- One where it is negative, zero elsewhere. -/
def neg (h : ℝ) : ℝ := if th h < 0 then 1 else 0

/-- The `k`-th of the eight edges that share edge `i`'s check node. -/
def mate (i : Fin 1024) (k : Fin 8) : Fin 1024 := ⟨8 * (i.val / 8) + k.val, by omega⟩

/-- The sum over the edges of `i`'s check node, but for `i` itself. -/
def others (f : Fin 1024 → ℝ) (i : Fin 1024) : ℝ := (∑ k : Fin 8, f (mate i k)) - f i

/-- `d` modulo two, in `[0, 2)`. -/
def mod2 (d : ℝ) : ℝ := d - 2 * (⌊d * (1 / 2)⌋ : ℝ)

/-- The signed product over the other edges of the check node, clipped. -/
def prod (h : Fin 1024 → ℝ) (i : Fin 1024) : ℝ :=
  min bound (max (-bound)
    ((1 - 2 * mod2 (others (fun k => neg (h k)) i)) * Real.exp (others (fun k => lmag (h k)) i)))

/-- The message a clipped product stands for. -/
def logit (p : ℝ) : ℝ := Real.log ((1 + p) / (1 - p))

/-- The check-node messages of the variable-node messages `v`. -/
def check (v : Fin 1024 → ℝ) (i : Fin 1024) : ℝ := logit (prod (fun k => 1 / 2 * v k) i)

/-! ### Iterations -/

/-- The sum of the messages on the edges of variable node `v`, edge `i` belonging to node `e i`. -/
def sums (e : Fin 1024 → ℕ) (msg : Fin 1024 → ℝ) (v : ℕ) : ℝ := ∑ i, if e i = v then msg i else 0

/-- The variable-node messages. -/
def varMsg (nc : ℕ → ℝ) (e : Fin 1024 → ℕ) (msg : Fin 1024 → ℝ) (i : Fin 1024) : ℝ :=
  nc (e i) + sums e msg (e i) - msg i

/-- The check-node messages after `n` iterations from zero messages. -/
def bp (nc : ℕ → ℝ) (e : Fin 1024 → ℕ) : ℕ → Fin 1024 → ℝ
  | 0 => fun _ => 0
  | n + 1 => check (varMsg nc e (bp nc e n))

/-- What one outer iteration hands the next: the channel values it used and its extrinsic sums. -/
abbrev St := (ℕ → ℝ) × (ℕ → ℝ)

/-- The channel values with the damped extrinsic sums added. -/
def damp (β : ℝ) (s : St) : ℕ → ℝ := fun r => s.1 r + β * s.2 r

/-- One outer iteration: three iterations of belief propagation on the permuted code. -/
def trip (β : ℝ) (e : Fin 1024 → ℕ) (s : St) : St := (damp β s, sums e (bp (damp β s) e 3))

/-- The state after `n` outer iterations from channel values `x`, the `t`-th on edges `e t`. -/
def st (β : ℝ) (e : ℕ → Fin 1024 → ℕ) (x : ℕ → ℝ) : ℕ → St
  | 0 => (x, fun _ => 0)
  | n + 1 => trip β (e n) (st β e x n)

/-- Outer iteration `t`'s decisions: the channel values plus the extrinsic sums. -/
def out (β : ℝ) (e : ℕ → Fin 1024 → ℕ) (x : ℕ → ℝ) (t : ℕ) (r : ℕ) : ℝ :=
  (st β e x (t + 1)).1 r + (st β e x (t + 1)).2 r

/-! ### Facts -/

theorem bound_pos : 0 < bound := by unfold bound; norm_num

theorem bound_lt_one : bound < 1 := by unfold bound; norm_num

/-- A clipped product lies strictly between minus one and one. -/
theorem prod_mem (h : Fin 1024 → ℝ) (i : Fin 1024) : -1 < prod h i ∧ prod h i < 1 := by
  have h0 := bound_pos
  have h1 := bound_lt_one
  constructor
  · exact lt_min (by linarith) (lt_max_of_lt_left (by linarith))
  · exact (min_le_left _ _).trans_lt h1

/-- The message of a clipped product is twice its inverse hyperbolic tangent. -/
theorem two_mul_artanh {p : ℝ} (h : -1 < p ∧ p < 1) : 2 * Real.artanh p = logit p := by
  rw [Real.artanh_eq_half_log ⟨h.1.le, h.2.le⟩, logit]
  ring

/-- A remainder taken towards zero, two added where it is negative, is the remainder modulo two. -/
theorem mod2_of_rem (d : ℝ) :
    (if d - 2 * (Ideal.truncInt (d / 2) : ℝ) < 0 then d - 2 * (Ideal.truncInt (d / 2) : ℝ) + 2
      else d - 2 * (Ideal.truncInt (d / 2) : ℝ)) = mod2 d := by
  unfold mod2 Ideal.truncInt
  rw [show d * (1 / 2) = d / 2 by ring]
  by_cases h : 0 ≤ d / 2
  · rw [if_pos h, if_neg]
    have := Int.floor_le (d / 2)
    linarith
  · rw [if_neg h]
    by_cases h' : d - 2 * ((⌈d / 2⌉ : ℤ) : ℝ) < 0
    · rw [if_pos h']
      have e : (⌊d / 2⌋ : ℤ) = ⌈d / 2⌉ - 1 := by
        rw [Int.floor_eq_iff]
        push_cast
        have := Int.ceil_lt_add_one (d / 2)
        constructor <;> linarith
      rw [e]; push_cast; ring
    · rw [if_neg h']
      have e : (⌊d / 2⌋ : ℤ) = ⌈d / 2⌉ := by
        rw [Int.floor_eq_iff]
        have := Int.le_ceil (d / 2)
        constructor <;> linarith
      rw [e]

/-- Renaming the variable nodes by an injection does not change a node's sum. -/
theorem sums_comp (f : Fin 1024 → ℕ) (p : ℕ → ℕ) (msg : Fin 1024 → ℝ) (v : ℕ)
    (h : ∀ i, p (f i) = p v → f i = v) : sums f msg v = sums (fun i => p (f i)) msg (p v) := by
  refine Finset.sum_congr rfl fun i _ => ?_
  by_cases e : f i = v
  · rw [if_pos e, if_pos (congrArg p e)]
  · rw [if_neg e, if_neg fun q => e (h i q)]

end Cert.Proof.Bp
-- ==== Proof.Reals.lean ====
/- The idealized operations at real operands: each is the real operation, so that a program's value at real inputs is
   a real number that can be compared with the model. -/
module

public import proofs.«01_k».proof.Proof.Model
public import Idealize.ShloMosaic.PureOps.Ideal
public import Idealize.ShloMosaic.PureOps.Ideal.Laws

@[expose] public section

noncomputable section

namespace Cert.Proof.Bp

open Idealize.ShloMosaic

/-! ### The literals -/

theorem lit_half : Ideal.ofBits .f32 0x3F000000#32 = ((1 / 2 : ℝ) : EReal) := by
  simp [Ideal.ofBits, Ideal.ieee]; norm_num
  rw [← EReal.coe_mul]; exact congrArg Real.toEReal (by norm_num)
theorem lit_neg15 : Ideal.ofBits .f32 0xC1700000#32 = ((-15 : ℝ) : EReal) := by
  simp [Ideal.ofBits, Ideal.ieee]; norm_num
  rw [← EReal.coe_mul]; exact congrArg Real.toEReal (by norm_num)
theorem lit_15 : Ideal.ofBits .f32 0x41700000#32 = ((15 : ℝ) : EReal) := by
  simp [Ideal.ofBits, Ideal.ieee]; norm_num
  rw [← EReal.coe_mul]; exact congrArg Real.toEReal (by norm_num)
theorem lit_eps : Ideal.ofBits .f32 0x2B8CBCCC#32 = ((eps : ℝ) : EReal) := by
  unfold eps
  simp [Ideal.ofBits, Ideal.ieee]; norm_num
  rw [← EReal.coe_mul]; exact congrArg Real.toEReal (by norm_num)
theorem lit_one : Ideal.ofBits .f32 0x3F800000#32 = ((1 : ℝ) : EReal) := by
  simp [Ideal.ofBits, Ideal.ieee]; norm_num
  rw [← EReal.coe_mul]; exact congrArg Real.toEReal (by norm_num)
theorem lit_two : Ideal.ofBits .f32 0x40000000#32 = ((2 : ℝ) : EReal) := by
  simp [Ideal.ofBits, Ideal.ieee]; norm_num
  rw [← EReal.coe_mul]; exact congrArg Real.toEReal (by norm_num)
theorem lit_bound : Ideal.ofBits .f32 0x3F7FFFEF#32 = ((bound : ℝ) : EReal) := by
  unfold bound
  simp [Ideal.ofBits, Ideal.ieee]; norm_num
  rw [← EReal.coe_mul]; exact congrArg Real.toEReal (by norm_num)
theorem lit_neg_bound : Ideal.ofBits .f32 0xBF7FFFEF#32 = ((-bound : ℝ) : EReal) := by
  unfold bound
  simp [Ideal.ofBits, Ideal.ieee]; norm_num
  rw [← EReal.coe_mul]; exact congrArg Real.toEReal (by norm_num)
theorem lit_zero : Ideal.ofBits .f32 0x00000000#32 = ((0 : ℝ) : EReal) := by
  simp [Ideal.ofBits, Ideal.ieee]

/-! ### The operations -/

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- The logarithm of a positive real. -/
theorem log_pos {r : ℝ} (h : 0 < r) : Ideal.log (r : EReal) = ((Real.log r : ℝ) : EReal) := by
  rw [Ideal.log_coe, if_neg (not_le.2 h)]

/-- The quotient of a real by a nonzero real. -/
theorem div_real (x : ℝ) {y : ℝ} (h : y ≠ 0) : Ideal.div (x : EReal) (y : EReal) = ((x / y : ℝ) : EReal) := by
  rw [Ideal.div_coe h, ← EReal.coe_mul, mul_one_div]

/-- A sum of reals. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s h ih => rw [Finset.sum_insert h, Finset.sum_insert h, ih, EReal.coe_add]

/-- The hyperbolic tangent of a half log-likelihood, clipped. -/
theorem th_real (h : ℝ) :
    Ideal.tanh (min (Ideal.ofBits .f32 0x41700000#32) (max (Ideal.ofBits .f32 0xC1700000#32) (h : EReal)))
      = ((th h : ℝ) : EReal) := by
  rw [lit_15, lit_neg15, coe_max, coe_min, Ideal.tanh_coe]; rfl

/-- The logarithm of the magnitude. -/
theorem lmag_real (h : ℝ) :
    Ideal.log (max ((th h : ℝ) : EReal) (-((th h : ℝ) : EReal)) + Ideal.ofBits .f32 0x2B8CBCCC#32)
      = ((lmag h : ℝ) : EReal) := by
  rw [lit_eps, ← EReal.coe_neg, coe_max, ← EReal.coe_add, log_pos]
  · rfl
  · exact add_pos_of_nonneg_of_pos (abs_nonneg _) eps_pos

/-- The clipped signed product. -/
theorem clip_real (p : ℝ) :
    min (Ideal.ofBits .f32 0x3F7FFFEF#32) (max (Ideal.ofBits .f32 0xBF7FFFEF#32) (p : EReal))
      = ((min bound (max (-bound) p) : ℝ) : EReal) := by
  rw [lit_bound, lit_neg_bound, coe_max, coe_min]

/-- The message of a clipped product, from its logarithm. -/
theorem logit_real {p : ℝ} (h : -1 < p ∧ p < 1) :
    Ideal.log (Ideal.div (Ideal.ofBits .f32 0x3F800000#32 + (p : EReal)) (Ideal.ofBits .f32 0x3F800000#32 - (p : EReal)))
      = ((logit p : ℝ) : EReal) := by
  have h0 : 0 < 1 + p := by linarith [h.1]
  have h1 : 0 < 1 - p := by linarith [h.2]
  rw [lit_one, ← EReal.coe_add, ← EReal.coe_sub, div_real _ h1.ne', log_pos (div_pos h0 h1)]; rfl

/-- The message of a clipped product, from the inverse hyperbolic tangent. -/
theorem atanh_real {p : ℝ} (h : -1 < p ∧ p < 1) :
    Ideal.ofBits .f32 0x40000000#32 * Ideal.atanh (p : EReal) = ((logit p : ℝ) : EReal) := by
  rw [lit_two, Ideal.atanh_coe, if_neg h.2.ne, if_neg h.1.ne', if_pos h, ← EReal.coe_mul, two_mul_artanh h]

/-- A comparison with zero, decided. -/
theorem olt_zero (r : ℝ) :
    Ideal.cmp .olt (r : EReal) (Ideal.ofBits .f32 0x00000000#32) = if r < 0 then 1#1 else 0#1 := by
  rw [lit_zero]
  by_cases h : r < 0
  · simp [Ideal.cmp, h]
  · simp [Ideal.cmp, h]

end Cert.Proof.Bp
-- ==== Proof.Inputs.lean ====
/- What the precondition says of the six arguments, in plain terms: real channel values, an integer code whose
   permutations have the inverses that are given, and a damping factor. -/
module

public import proofs.«01_k».proof.Proof.Reals
public import Idealize.ShloMosaic.Lib.Pointwise

@[expose] public section

noncomputable section

namespace Cert.Proof.Bp

open Idealize.ShloMosaic

/-- The six arguments hold the batch of channel values `x` (zero from row 255 on), a number whose logistic function is `β`,
    the variable nodes `ev` and the check nodes of the edges (eight consecutive edges to a check node), and the
    permutations `perm` of the variable nodes with their inverses `inv`. -/
structure Inputs (a0 : FVec Ideal ⟨2, ![255, 2048]⟩ .f32) (a1 : FVec Ideal ⟨1, ![1]⟩ .f32) (a2 a3 : IVec ⟨1, ![1024]⟩ 32)
    (a4 a5 : IVec ⟨2, ![30, 255]⟩ 32) (β : ℝ) (x : Fin 2048 → ℕ → ℝ) (ev : Fin 1024 → Fin 255)
    (perm inv : Fin 30 → Fin 255 → Fin 255) : Prop where
  factor : Ideal.div 1 (1 + Ideal.exp (-a1 (ix1 0))) = ((β : ℝ) : EReal)
  value : ∀ (r : Fin 255) (b : Fin 2048), a0 (ix2 r b) = ((x b r.val : ℝ) : EReal)
  pad : ∀ b r, 255 ≤ r → x b r = 0
  vars : ∀ i : Fin 1024, a2 (ix1 i) = BitVec.ofNat 32 (ev i).val
  chks : ∀ i : Fin 1024, a3 (ix1 i) = BitVec.ofNat 32 (i.val / 8)
  perms : ∀ (t : Fin 30) (r : Fin 255), a4 (ix2 t r) = BitVec.ofNat 32 (perm t r).val
  invs : ∀ (t : Fin 30) (r : Fin 255), a5 (ix2 t r) = BitVec.ofNat 32 (inv t r).val
  inverse : ∀ t r s, perm t r = s ↔ inv t s = r

/-- The permuted variable node of every edge in outer iteration `t`. -/
def nodes (perm : Fin 30 → Fin 255 → Fin 255) (ev : Fin 1024 → Fin 255) (t : ℕ) (i : Fin 1024) : ℕ :=
  if h : t < 30 then (perm ⟨t, h⟩ (ev i)).val else 0

theorem nodes_of_lt (perm : Fin 30 → Fin 255 → Fin 255) (ev : Fin 1024 → Fin 255) (t : Fin 30) (i : Fin 1024) :
    nodes perm ev t.val i = (perm t (ev i)).val := dif_pos t.isLt

theorem nodes_lt (perm : Fin 30 → Fin 255 → Fin 255) (ev : Fin 1024 → Fin 255) (t : ℕ) (i : Fin 1024) : nodes perm ev t i < 256 := by
  unfold nodes
  split
  · exact (perm _ _).isLt.trans (by decide)
  · decide

/-- The logistic function of any number, infinite or not, is a real number. -/
theorem logistic_real (z : EReal) : ∃ β : ℝ, Ideal.div 1 (1 + Ideal.exp (-z)) = ((β : ℝ) : EReal) := by
  induction z with
  | bot => exact ⟨0, by
      rw [EReal.neg_bot, Ideal.exp_top, show (1 : EReal) + ⊤ = ⊤ from EReal.coe_add_top 1]
      simp [Ideal.div]⟩
  | top => exact ⟨1, by
      rw [EReal.neg_top, Ideal.exp_bot, add_zero]
      simp [Ideal.div]⟩
  | coe r =>
    refine ⟨1 / (1 + Real.exp (-r)), ?_⟩
    rw [← EReal.coe_neg, Ideal.exp_coe]
    exact div_real 1 (y := 1 + Real.exp (-r)) (by positivity)

end Cert.Proof.Bp
-- ==== Proof.Decode.lean ====
/- The precondition, decoded: where its six masks are all set, the arguments hold real channel values, a code and
   permutations with their inverses. -/
module

public import proofs.«01_k».proof.Proof.Inputs
public import proofs.«01_k».proof.Proof.Gen.Pre_decoder_inputs
public import Idealize.ShloMosaic.Lib.StableHlo.Predicate

@[expose] public section

set_option maxRecDepth 16384

noncomputable section

namespace Cert.Proof.Bp

open Idealize.ShloMosaic
open Cert.Pre_decoder_inputs Cert.Pre_decoder_inputs.Gen

/-- A word between 0 and 254, read signed, is the word of a number below 255. -/
theorem word_below (w : BitVec 32) (h : IntOp.andi (IntOp.cmpi .sge w 0#32) (IntOp.cmpi .slt w 255#32) = 1#1) :
    ∃ v : Fin 255, w = BitVec.ofNat 32 v.val := by
  have both : (0#32 : BitVec 32).sle w = true ∧ w.slt 255#32 = true := by
    change BitVec.ofBool ((0#32 : BitVec 32).sle w) &&& BitVec.ofBool (w.slt 255#32) = 1#1 at h
    revert h
    cases (0#32 : BitVec 32).sle w <;> cases w.slt 255#32 <;> decide
  simp only [BitVec.sle, BitVec.slt, decide_eq_true_eq, BitVec.toInt_eq_toNat_cond] at both
  have hl := w.isLt
  have lt : w.toNat < 255 := by
    have h0 : (0#32 : BitVec 32).toNat = 0 := rfl
    have h1 : (255#32 : BitVec 32).toNat = 255 := rfl
    rw [h0, h1] at both
    split at both <;> simp at both <;> omega
  exact ⟨⟨w.toNat, lt⟩, (BitVec.ofNat_toNat 32 w ▸ by simp)⟩

/-- Words of numbers below 255 are equal only where the numbers are. -/
theorem word_inj (v w : Fin 255) : BitVec.ofNat 32 v.val = BitVec.ofNat 32 w.val ↔ v = w := by
  constructor
  · intro h
    have := congrArg BitVec.toNat h
    rw [BitVec.toNat_ofNat, BitVec.toNat_ofNat] at this
    exact Fin.ext (by omega)
  · rintro rfl
    rfl

/-- Two comparisons that agree decide the same. -/
theorem agree (a b c d : BitVec 32) (h : IntOp.cmpi .eq (IntOp.cmpi .eq a b) (IntOp.cmpi .eq c d) = 1#1) : a = b ↔ c = d := by
  have e := StableHlo.Predicate.cmpi_eq_iff.1 h
  rw [← StableHlo.Predicate.cmpi_eq_iff (a := a), e, StableHlo.Predicate.cmpi_eq_iff]

/-- A number of finite magnitude is a real number. -/
theorem real_of_finite (a : EReal) (h : BitVec.ofBool (decide (max a (-a) < Ideal.ofBits .f32 0x7F800000#32)) = 1#1) :
    ((a.toReal : ℝ) : EReal) = a := by
  have top : Ideal.ofBits .f32 0x7F800000#32 = ⊤ := by simp [Ideal.ofBits, Ideal.ieee]
  rw [top] at h
  have lt := of_decide_eq_true ((StableHlo.Predicate.ofBool_eq_one_iff _).1 h)
  refine EReal.coe_toReal (fun q => ?_) (fun q => ?_)
  · rw [q] at lt
    exact absurd lt (by simp)
  · rw [q] at lt
    exact absurd lt (by simp)

section

variable (a0 : FVec Ideal S255x2048 .f32) (a1 : FVec Ideal S1 .f32) (a2 a3 : IVec S1024 32) (a4 a5 : IVec S30x255 32)

theorem mask0 (r : Fin 255) (b : Fin 2048) : (fn (F := Ideal) a0 a1 a2 a3 a4 a5).1 (ix2 r b)
    = BitVec.ofBool (decide (max (a0 (ix2 r b)) (-a0 (ix2 r b)) < Ideal.ofBits .f32 0x7F800000#32)) := by
  pointwise [fn, fn_part1]
  rfl

theorem mask1 (i : Fin 1024) : (fn (F := Ideal) a0 a1 a2 a3 a4 a5).2.1 (ix1 i)
    = IntOp.andi (IntOp.cmpi .sge (a2 (ix1 i)) 0#32) (IntOp.cmpi .slt (a2 (ix1 i)) 255#32) := by
  pointwise [fn, fn_part1]

theorem mask2 (k : Fin 128) (l : Fin 8) : (fn (F := Ideal) a0 a1 a2 a3 a4 a5).2.2.1 (ix2 k l)
    = IntOp.cmpi .eq (a3 (ix1 ⟨k.val * 8 + l.val, by omega⟩)) (BitVec.ofNat 32 k.val) := by
  pointwise [fn, fn_part1]

theorem mask3 (t : Fin 30) (r : Fin 255) : (fn (F := Ideal) a0 a1 a2 a3 a4 a5).2.2.2.1 (ix2 t r)
    = IntOp.andi (IntOp.cmpi .sge (a4 (ix2 t r)) 0#32) (IntOp.cmpi .slt (a4 (ix2 t r)) 255#32) := by
  pointwise [fn, fn_part1]

theorem mask4 (t : Fin 30) (r : Fin 255) : (fn (F := Ideal) a0 a1 a2 a3 a4 a5).2.2.2.2.1 (ix2 t r)
    = IntOp.andi (IntOp.cmpi .sge (a5 (ix2 t r)) 0#32) (IntOp.cmpi .slt (a5 (ix2 t r)) 255#32) := by
  pointwise [fn, fn_part1]

theorem mask5 (t : Fin 30) (r s : Fin 255) : (fn (F := Ideal) a0 a1 a2 a3 a4 a5).2.2.2.2.2 (ix3 t r s)
    = IntOp.cmpi .eq (IntOp.cmpi .eq (a4 (ix2 t r)) (BitVec.ofNat 32 s.val)) (IntOp.cmpi .eq (a5 (ix2 t s)) (BitVec.ofNat 32 r.val)) := by
  pointwise [fn, fn_part1]

/-- Arguments that satisfy the precondition are a decoder's inputs. -/
theorem decode (h : (fn (F := Ideal) a0 a1 a2 a3 a4 a5).1 = (fun _ => 1#1) ∧ (fn (F := Ideal) a0 a1 a2 a3 a4 a5).2.1 = (fun _ => 1#1)
      ∧ (fn (F := Ideal) a0 a1 a2 a3 a4 a5).2.2.1 = (fun _ => 1#1) ∧ (fn (F := Ideal) a0 a1 a2 a3 a4 a5).2.2.2.1 = (fun _ => 1#1)
      ∧ (fn (F := Ideal) a0 a1 a2 a3 a4 a5).2.2.2.2.1 = (fun _ => 1#1) ∧ (fn (F := Ideal) a0 a1 a2 a3 a4 a5).2.2.2.2.2 = (fun _ => 1#1)) :
    ∃ β x ev perm inv, Inputs a0 a1 a2 a3 a4 a5 β x ev perm inv := by
  obtain ⟨h0, h1, h2, h3, h4, h5⟩ := h
  obtain ⟨β, hβ⟩ := logistic_real (a1 (ix1 0))
  choose ev hev using fun i : Fin 1024 => word_below _ ((mask1 a0 a1 a2 a3 a4 a5 i).symm.trans (congrFun h1 _))
  choose perm hperm using fun (t : Fin 30) (r : Fin 255) => word_below _ ((mask3 a0 a1 a2 a3 a4 a5 t r).symm.trans (congrFun h3 _))
  choose inv hinv using fun (t : Fin 30) (r : Fin 255) => word_below _ ((mask4 a0 a1 a2 a3 a4 a5 t r).symm.trans (congrFun h4 _))
  refine ⟨β, fun b r => if q : r < 255 then (a0 (ix2 ⟨r, q⟩ b)).toReal else 0, ev, perm, inv, hβ, fun r b => ?_, fun b r q => ?_,
    hev, fun i => ?_, hperm, hinv, fun t r s => ?_⟩
  · show _ = ((dite _ _ _ : ℝ) : EReal)
    rw [dif_pos r.isLt]
    exact (real_of_finite _ ((mask0 a0 a1 a2 a3 a4 a5 r b).symm.trans (congrFun h0 _))).symm
  · exact dif_neg (by omega)
  · have k := StableHlo.Predicate.cmpi_eq_iff.1
      ((mask2 a0 a1 a2 a3 a4 a5 ⟨i.val / 8, by omega⟩ ⟨i.val % 8, by omega⟩).symm.trans (congrFun h2 _))
    refine Eq.trans (congrArg (fun j => a3 (ix1 j)) (Fin.ext ?_)) k
    show i.val = i.val / 8 * 8 + i.val % 8
    omega
  · have k := agree _ _ _ _ ((mask5 a0 a1 a2 a3 a4 a5 t r s).symm.trans (congrFun h5 _))
    rw [hperm, hinv, word_inj, word_inj] at k
    exact k

end

end Cert.Proof.Bp
-- ==== Proof.KerMath.lean ====
/- The kernel's arithmetic, read at an index: a trip of its loop is the model's outer iteration on every batch column of
   the block, the channel values and sums being real. -/
module

public import proofs.«01_k».proof.Proof.Reals
public import proofs.«01_k».proof.Proof.Gen.KernelIdeal.Skeleton
public import Idealize.ShloMosaic.Lib.Pointwise
public import Idealize.ShloMosaic.Lib.Routing.Shapes

@[expose] public section

set_option maxRecDepth 16384

noncomputable section

namespace Cert.Proof.Ker

open Idealize.ShloMosaic
open Cert.KernelIdeal Cert.KernelIdeal.Gen Cert.Proof.Bp

/-- A matrix of the kernel holds real numbers, column by column. -/
def Reads {n : ℕ} (v : FVec Ideal ⟨2, ![n, 512]⟩ .f32) (x : Fin 512 → Fin n → ℝ) : Prop :=
  ∀ (r : Fin n) (b : Fin 512), v (ix2 r b) = ((x b r : ℝ) : EReal)

/-! ### A check-node update -/

/-- The clipped hyperbolic tangent. -/
def tanhs (v : FVec Ideal S1024x512 .f32) : FVec Ideal S1024x512 .f32 :=
  tanh (minimumf (broadcast S1024x512 (Scalar.ofBits .f32 0x41700000#32))
    (maximumf (broadcast S1024x512 (Scalar.ofBits .f32 0xC1700000#32)) v))

/-- The logarithms of the magnitudes. -/
def lmags (t : FVec Ideal S1024x512 .f32) : FVec Ideal S1024x512 .f32 :=
  log (addf (absf t) (broadcast S1024x512 (Scalar.ofBits .f32 0x2B8CBCCC#32)))

/-- The signs, one for a negative. -/
def negs (t : FVec Ideal S1024x512 .f32) : FVec Ideal S1024x512 .f32 :=
  select (cmpf .olt t (broadcast S1024x512 (Scalar.ofBits .f32 0x00000000#32)))
    (broadcast S1024x512 (Scalar.ofBits .f32 0x3F800000#32)) (broadcast S1024x512 (Scalar.ofBits .f32 0x00000000#32))

/-- The sums over the other edges of a check node. -/
def rest (f : FVec Ideal S1024x512 .f32) : FVec Ideal S1024x512 .f32 :=
  subf (shapeCast S1024x512 (broadcastTo S128x8x512 (shapeCast S128x1x512 (shapeCast S128x1x512
    (multiReduction .add [1] S128x512 (shapeCast S128x8x512 f shapeCasts_S1024x512_S128x8x512) 0x00000000#32
      reduces_S128x8x512_S128x512 (.inl rfl) rfl)
    shapeCasts_S128x512_S128x1x512) shapeCasts_S128x1x512_S128x1x512) broadcasts_S128x1x512_S128x8x512)
    shapeCasts_S128x8x512_S1024x512) f

/-- The clipped signed product. -/
def signed (d m : FVec Ideal S1024x512 .f32) : FVec Ideal S1024x512 .f32 :=
  minimumf (broadcast S1024x512 (Scalar.ofBits .f32 0x3F7FFFEF#32))
    (maximumf (broadcast S1024x512 (Scalar.ofBits .f32 0xBF7FFFEF#32))
      (mulf (subf (broadcast S1024x512 (Scalar.ofBits .f32 0x3F800000#32))
        (mulf (broadcast S1024x512 (Scalar.ofBits .f32 0x40000000#32))
          (subf d (mulf (broadcast S1024x512 (Scalar.ofBits .f32 0x40000000#32))
            (floor (mulf d (broadcast S1024x512 (Scalar.ofBits .f32 0x3F000000#32)))))))) (exp m)))

theorem pay19_eq (v : FVec Ideal S1024x512 .f32) :
    k0_pay19 v = signed (rest (negs (tanhs v))) (rest (lmags (tanhs v))) := rfl

/-- The messages of clipped products. -/
def logits (p : FVec Ideal S1024x512 .f32) : FVec Ideal S1024x512 .f32 :=
  log (divf (addf (broadcast S1024x512 (Scalar.ofBits .f32 0x3F800000#32)) p)
    (subf (broadcast S1024x512 (Scalar.ofBits .f32 0x3F800000#32)) p))

theorem tanhs_real (v : FVec Ideal S1024x512 .f32) (h : Fin 512 → Fin 1024 → ℝ) (hv : Reads v h) :
    Reads (tanhs v) fun b i => th (h b i) := fun i b => by
  pointwise [tanhs]
  rw [hv i b]
  exact th_real _

theorem lmags_real (t : FVec Ideal S1024x512 .f32) (h : Fin 512 → Fin 1024 → ℝ) (ht : Reads t fun b i => th (h b i)) :
    Reads (lmags t) fun b i => lmag (h b i) := fun i b => by
  pointwise [lmags]
  rw [ht i b]
  exact lmag_real _

theorem negs_real (t : FVec Ideal S1024x512 .f32) (h : Fin 512 → Fin 1024 → ℝ) (ht : Reads t fun b i => th (h b i)) :
    Reads (negs t) fun b i => neg (h b i) := fun i b => by
  pointwise [negs]
  rw [ht i b]
  unfold neg
  simp only [EReal.coe_neg']
  split <;> rfl

theorem rest_real (f : FVec Ideal S1024x512 .f32) (g : Fin 512 → Fin 1024 → ℝ) (hf : Reads f g) :
    Reads (rest f) fun b i => others (g b) i := fun i b => by
  pointwise [rest]
  rw [hf i b, others, EReal.coe_sub, ← coe_sum]
  refine congrArg (· - _) (Finset.sum_congr rfl fun k _ => ?_)
  refine (hf _ b).trans ?_
  refine congrArg (fun j => ((g b j : ℝ) : EReal)) (Fin.ext ?_)
  show i.val / 8 * 8 + k.val = 8 * (i.val / 8) + k.val
  omega

theorem signed_real (d m : FVec Ideal S1024x512 .f32) (d' m' : Fin 512 → Fin 1024 → ℝ) (hd : Reads d d') (hm : Reads m m') :
    Reads (signed d m) fun b i => min bound (max (-bound) ((1 - 2 * mod2 (d' b i)) * Real.exp (m' b i))) := fun i b => by
  pointwise [signed]
  rw [hd i b, hm i b, ← clip_real, lit_half, lit_two, ← EReal.coe_mul, Ideal.liftRound_coe, Ideal.exp_coe, ← EReal.coe_one]
  simp only [← EReal.coe_mul, ← EReal.coe_sub]
  rfl

theorem logits_real (p : FVec Ideal S1024x512 .f32) (q : Fin 512 → Fin 1024 → ℝ) (hp : Reads p q)
    (hq : ∀ b i, -1 < q b i ∧ q b i < 1) : Reads (logits p) fun b i => logit (q b i) := fun i b => by
  rw [← logit_real (hq b i), ← hp i b]
  rfl

/-- The clipped products of the kernel are the model's. -/
theorem pay19_real (v : FVec Ideal S1024x512 .f32) (h : Fin 512 → Fin 1024 → ℝ) (hv : Reads v h) :
    Reads (k0_pay19 v) fun b i => prod (h b) i := by
  rw [pay19_eq]
  exact signed_real _ _ _ _ (rest_real _ _ (negs_real _ _ (tanhs_real v h hv)))
    (rest_real _ _ (lmags_real _ _ (tanhs_real v h hv)))

/-- The messages of half log-likelihoods. -/
theorem msgs_real (v : FVec Ideal S1024x512 .f32) (h : Fin 512 → Fin 1024 → ℝ) (hv : Reads v h) :
    Reads (logits (k0_pay19 v)) fun b i => logit (prod (h b) i) :=
  logits_real _ _ (pay19_real v h hv) fun b i => prod_mem (h b) i

/-! ### The one-hot products -/

/-- A product with the one-hot matrix over the variable nodes, the operand split in three `bf16` parts. -/
def gath (oh : FVec Ideal S256x1024 .bf16) (x : FVec Ideal S256x512 .f32) : FVec Ideal S1024x512 .f32 :=
  let hi : FVec Ideal S256x512 .bf16 := truncf .bf16 x bitsLt_bf16_f32
  let d : FVec Ideal S256x512 .f32 := subf x (extf .f32 hi bitsLt_bf16_f32)
  let mid : FVec Ideal S256x512 .bf16 := truncf .bf16 d bitsLt_bf16_f32
  let lo : FVec Ideal S256x512 .bf16 := truncf .bf16 (subf d (extf .f32 mid bitsLt_bf16_f32)) bitsLt_bf16_f32
  addf (addf
    (matmul dot_S256x1024_S256x512_S1024x512_0_0_1_1_n_n none oh hi (constant S1024x512 .f32 0x00000000#32))
    (matmul dot_S256x1024_S256x512_S1024x512_0_0_1_1_n_n none oh mid (constant S1024x512 .f32 0x00000000#32)))
    (matmul dot_S256x1024_S256x512_S1024x512_0_0_1_1_n_n none oh lo (constant S1024x512 .f32 0x00000000#32))

/-- A product with the one-hot matrix over the edges, the operand split likewise. -/
def scat (oh : FVec Ideal S256x1024 .bf16) (x : FVec Ideal S1024x512 .f32) : FVec Ideal S256x512 .f32 :=
  let hi : FVec Ideal S1024x512 .bf16 := truncf .bf16 x bitsLt_bf16_f32
  let d : FVec Ideal S1024x512 .f32 := subf x (extf .f32 hi bitsLt_bf16_f32)
  let mid : FVec Ideal S1024x512 .bf16 := truncf .bf16 d bitsLt_bf16_f32
  let lo : FVec Ideal S1024x512 .bf16 := truncf .bf16 (subf d (extf .f32 mid bitsLt_bf16_f32)) bitsLt_bf16_f32
  addf (addf
    (matmul dot_S256x1024_S1024x512_S256x512_1_0_0_1_n_n none oh hi (constant S256x512 .f32 0x00000000#32))
    (matmul dot_S256x1024_S1024x512_S256x512_1_0_0_1_n_n none oh mid (constant S256x512 .f32 0x00000000#32)))
    (matmul dot_S256x1024_S1024x512_S256x512_1_0_0_1_n_n none oh lo (constant S256x512 .f32 0x00000000#32))

/-- The matrix that has a one where row `r` is edge `i`'s variable node. -/
def OneHot (oh : FVec Ideal S256x1024 .bf16) (e : Fin 1024 → ℕ) : Prop :=
  ∀ (r : Fin 256) (i : Fin 1024), oh (ix2 r i) = if e i = r.val then (1 : EReal) else 0

/-- A product of a row of zeros and ones with reals split in three parts: the later parts are zero. -/
theorem split_sum {ι : Type} [Fintype ι] (c : ι → Prop) [DecidablePred c] (y : ι → ℝ) (o x : ι → EReal)
    (ho : ∀ k, o k = if c k then 1 else 0) (hx : ∀ k, x k = ((y k : ℝ) : EReal)) :
    (∑ k, o k * x k + ∑ k, o k * (x k - x k)) + ∑ k, o k * (x k - x k - (x k - x k))
      = ((∑ k, if c k then y k else 0 : ℝ) : EReal) := by
  have h0 : ∀ k, x k - x k = 0 := fun k => by rw [hx k, ← EReal.coe_sub, sub_self, EReal.coe_zero]
  have h1 : ∀ k, o k * x k = ((if c k then y k else 0 : ℝ) : EReal) := fun k => by
    rw [ho k, hx k]
    split
    · rw [one_mul]
    · rw [zero_mul, EReal.coe_zero]
  simp only [h0, sub_zero, mul_zero, Finset.sum_const_zero, add_zero, h1]
  exact coe_sum _ _

theorem gath_real (oh : FVec Ideal S256x1024 .bf16) (e : Fin 1024 → ℕ) (ho : OneHot oh e) (he : ∀ i, e i < 256)
    (x : FVec Ideal S256x512 .f32) (f : Fin 512 → ℕ → ℝ) (hx : Reads x fun b r => f b r.val) :
    Reads (gath oh x) fun b i => f b (e i) := fun i b => by
  pointwise [gath]
  refine (split_sum (fun k : Fin 256 => e i = k.val) (fun k => f b k.val) _ _ (fun k => ho k i) fun k => hx k b).trans ?_
  refine congrArg Real.toEReal ?_
  rw [Finset.sum_eq_single (⟨e i, he i⟩ : Fin 256)]
  · exact if_pos rfl
  · intro k _ hk
    exact if_neg fun q => hk (Fin.ext q.symm)
  · intro h
    exact absurd (Finset.mem_univ _) h

theorem scat_real (oh : FVec Ideal S256x1024 .bf16) (e : Fin 1024 → ℕ) (ho : OneHot oh e)
    (x : FVec Ideal S1024x512 .f32) (f : Fin 512 → Fin 1024 → ℝ) (hx : Reads x f) :
    Reads (scat oh x) fun b r => sums e (f b) r.val := fun r b => by
  pointwise [scat]
  exact split_sum (fun k : Fin 1024 => e k = r.val) (fun k => f b k) _ _ (fun k => ho r k) fun k => hx k b

/-! ### A trip -/

/-- Half the variable-node messages. -/
def halves (oh : FVec Ideal S256x1024 .bf16) (x : FVec Ideal S256x512 .f32) (m : FVec Ideal S1024x512 .f32) :
    FVec Ideal S1024x512 .f32 :=
  mulf (broadcast S1024x512 (Scalar.ofBits .f32 0x3F000000#32)) (subf (gath oh x) m)

/-- One iteration of belief propagation. -/
def iter (oh : FVec Ideal S256x1024 .bf16) (nc s : FVec Ideal S256x512 .f32) (m : FVec Ideal S1024x512 .f32) :
    FVec Ideal S1024x512 .f32 :=
  logits (k0_pay19 (halves oh (addf nc s) m))

/-- The zero messages and sums of the first iteration. -/
def zeros (n : ℕ) : FVec Ideal ⟨2, ![n, 512]⟩ .f32 := broadcast _ (Scalar.ofBits .f32 0x00000000#32)

/-- The messages after one iteration. -/
def msg1 (oh : FVec Ideal S256x1024 .bf16) (nc : FVec Ideal S256x512 .f32) : FVec Ideal S1024x512 .f32 :=
  iter oh nc (zeros 256) (zeros 1024)

/-- The messages after two iterations. -/
def msg2 (oh : FVec Ideal S256x1024 .bf16) (nc : FVec Ideal S256x512 .f32) : FVec Ideal S1024x512 .f32 :=
  iter oh nc (scat oh (msg1 oh nc)) (msg1 oh nc)

/-- The messages after three iterations. -/
def msg3 (oh : FVec Ideal S256x1024 .bf16) (nc : FVec Ideal S256x512 .f32) : FVec Ideal S1024x512 .f32 :=
  iter oh nc (scat oh (msg2 oh nc)) (msg2 oh nc)

theorem add_real {x y : FVec Ideal S256x512 .f32} {f g : Fin 512 → Fin 256 → ℝ} (hx : Reads x f) (hy : Reads y g) :
    Reads (addf x y) fun b r => f b r + g b r := fun r b => by
  pointwise
  rw [hx r b, hy r b, ← EReal.coe_add]

theorem zeros_real (n : ℕ) : Reads (zeros n) fun _ _ => 0 := fun r b => by
  pointwise [zeros]
  rfl

/-- One iteration of the kernel is one iteration of the model. -/
theorem iter_real (oh : FVec Ideal S256x1024 .bf16) (e : Fin 1024 → ℕ) (ho : OneHot oh e) (he : ∀ i, e i < 256)
    (nc s : FVec Ideal S256x512 .f32) (m : FVec Ideal S1024x512 .f32) (f : Fin 512 → ℕ → ℝ) (g : Fin 512 → Fin 1024 → ℝ)
    (hn : Reads nc fun b r => f b r.val) (hm : Reads m g) (hs : Reads s fun b r => sums e (g b) r.val) :
    Reads (iter oh nc s m) fun b => check (varMsg (f b) e (g b)) := by
  refine msgs_real _ (fun b i => 1 / 2 * varMsg (f b) e (g b) i) fun i b => ?_
  pointwise [halves]
  rw [gath_real oh e ho he _ (fun b r => f b r + sums e (g b) r) (add_real hn hs) i b, hm i b, lit_half,
    ← EReal.coe_sub, ← EReal.coe_mul]
  rfl

/-- The sums of the kernel's third messages are the model's. -/
theorem ext_real (oh : FVec Ideal S256x1024 .bf16) (e : Fin 1024 → ℕ) (ho : OneHot oh e) (he : ∀ i, e i < 256)
    (nc : FVec Ideal S256x512 .f32) (f : Fin 512 → ℕ → ℝ) (hn : Reads nc fun b r => f b r.val) :
    Reads (scat oh (msg3 oh nc)) fun b r => sums e (bp (f b) e 3) r.val := by
  have h1 : Reads (msg1 oh nc) fun b => bp (f b) e 1 :=
    iter_real oh e ho he nc _ _ f (fun _ _ => 0) hn (zeros_real 1024) fun r b => by
      rw [zeros_real 256 r b]
      simp [sums]
  have h2 : Reads (msg2 oh nc) fun b => bp (f b) e 2 :=
    iter_real oh e ho he nc _ _ f (fun b => bp (f b) e 1) hn h1 (scat_real oh e ho _ _ h1)
  have h3 : Reads (msg3 oh nc) fun b => bp (f b) e 3 :=
    iter_real oh e ho he nc _ _ f (fun b => bp (f b) e 2) hn h2 (scat_real oh e ho _ _ h2)
  exact scat_real oh e ho _ _ h3

section Trip
variable (v0 : Elt Ideal .f32) (v3 : IVec S256x1024 32) (cur ext : FVec Ideal S256x512 .f32) (v11 : Vec Ideal S1x1x1024 .i32)

theorem trip_msg1 :
    k0_pay12 (k0_pay8 v0 v3 cur ext v11) (k0_pay9 v0 v3 cur ext v11) (k0_pay10 v0 v3 cur ext v11) (k0_pay11 v0 v3 cur ext v11)
      = msg1 (k0_pay6 v3 v11) (k0_pay5 v0 cur ext) := rfl

theorem trip_sum1 (nc : FVec Ideal S256x512 .f32) (oh : FVec Ideal S256x1024 .bf16) (v44 v49 : FVec Ideal S1024x512 .f32)
    (v50 v51 : FVec Ideal S128x8x512 .f32) :
    k0_pay13 nc oh v44 v49 v50 v51 = addf nc (scat oh (k0_pay12 v44 v49 v50 v51)) := rfl

theorem trip_half3 (nc : FVec Ideal S256x512 .f32) (oh : FVec Ideal S256x1024 .bf16) (m : FVec Ideal S1024x512 .f32)
    (s : FVec Ideal S256x512 .f32) :
    k0_pay18 nc oh (k0_pay15 oh m (addf nc s)) (k0_pay16 oh m (addf nc s)) (k0_pay17 oh m (addf nc s))
      = halves oh (addf nc (scat oh (iter oh nc s m))) (iter oh nc s m) := rfl

theorem trip_ext (oh : FVec Ideal S256x1024 .bf16) (p : FVec Ideal S1024x512 .f32) :
    k0_pay3 oh p k0_pay20 = scat oh (logits p) := rfl

end Trip

end Cert.Proof.Ker
-- ==== Proof.KerTrip.lean ====
/- The kernel's loop: the state its trips carry and the rows they store are the model's states and decisions, so that a
   point's output block holds the model's decisions of its batch columns. -/
module

public import proofs.«01_k».proof.Proof.KerMath
public import proofs.«01_k».proof.Proof.Gen.KernelIdeal.Frame
public import Idealize.ShloMosaic.Lib.WholeRead

@[expose] public section

set_option maxRecDepth 16384

noncomputable section

namespace Cert.Proof.Ker

open Idealize.ShloMosaic Idealize.ShloMosaic.TcCoe
open Cert.KernelIdeal Cert.KernelIdeal.Gen Cert.Proof.Bp

/-- The row numbers the one-hot matrix compares with. -/
def rowNos : IVec S256x1024 32 := iota Kind.tc S256x1024 32 [0] iota_S256x1024_d0_w32

/-- The matrix a trip builds from its edges' variable nodes has ones exactly there. -/
theorem oneHot (v11 : Vec Ideal S1x1x1024 .i32) (e : Fin 1024 → ℕ) (he : ∀ i, e i < 256)
    (h : ∀ i : Fin 1024, v11 (ix3 0 0 i) = BitVec.ofNat 32 (e i)) : OneHot (k0_pay6 rowNos v11) e := fun r i => by
  pointwise [k0_pay6, rowNos]
  rw [h i]
  have hi := he i
  by_cases q : e i = r.val
  · rw [if_pos q, q, IntOp.cmpi]
    simp only [beq_self_eq_true, BitVec.ofBool_true]
    exact (congrArg (fun z : ℤ => ((z : ℝ) : EReal)) (show (BitVec.setWidth 32 (1#1)).toInt = 1 by decide)).trans (by simp)
  · rw [if_neg q]
    have hne : (BitVec.ofNat 32 (e i) == BitVec.ofNat 32 r.val) = false := by
      rw [beq_eq_false_iff_ne]
      intro w
      have := congrArg BitVec.toNat w
      rw [BitVec.toNat_ofNat, BitVec.toNat_ofNat, Nat.mod_eq_of_lt (by omega), Nat.mod_eq_of_lt (by omega)] at this
      exact q this
    simp only [IntOp.cmpi, hne, BitVec.ofBool_false]
    exact (congrArg (fun z : ℤ => ((z : ℝ) : EReal)) (show (BitVec.setWidth 32 (0#1)).toInt = 0 by decide)).trans (by simp)

/-- The loop has thirty trips. -/
theorem trips_eq : k0_t1_loop.trips = 30 := by decide +kernel

section Loop

variable (𝒱 : Variants) (c : Dev nD) (bd : Option 𝒱.V) (i : grid0.Coords) (arg1 : Memref sig .tc .smem S1x1 .f32)
  (harg1 : arg1.IsWhole) (arg2 : Memref sig .tc .vmem S30x1x1024 .i32) (harg2 : arg2.IsWhole)
  (arg3 : Memref sig .tc .vmem S256x512 .f32) (harg3 : arg3.IsWhole) (arg4 : Memref sig .tc .vmem S30x256x512 .f32)
  (harg4 : arg4.IsWhole)

/-- The edges trip `k` loads. -/
abbrev edgesAt (X : BufTy.Contents (Elt Ideal) arg2.view.ty) (k : Fin k0_t1_loop.trips) : Vec Ideal S1x1x1024 .i32 :=
  arg2.view.readAt (Elt Ideal) (Rect.unit (s := S30x1x1024) (k0_off1 k) S1x1x1024.size (k0_off1_inb k)).toLoadRect X

section Trip
variable (v0 : Elt Ideal .f32) (v3 : IVec S256x1024 32) (X : BufTy.Contents (Elt Ideal) arg2.view.ty)
  (k : Fin k0_t1_loop.trips) (acc : FVec Ideal S256x512 .f32 × FVec Ideal S256x512 .f32)

/-- What a trip hands the next. -/
theorem tripR_eq :
    tripR_k0_t1 (F := Ideal) 𝒱 c bd i arg1 harg1 arg2 harg2 arg3 harg3 arg4 harg4 v0 v3 X k acc
      = (k0_pay5 v0 acc.1 acc.2,
          scat (k0_pay6 v3 (edgesAt arg2 X k)) (msg3 (k0_pay6 v3 (edgesAt arg2 X k)) (k0_pay5 v0 acc.1 acc.2))) := by
  unfold tripR_k0_t1 trip_k0_t1
  rfl

/-- What a trip stores. -/
theorem tripL_eq :
    tripL_k0_t1 (F := Ideal) 𝒱 c bd i arg1 harg1 arg2 harg2 arg3 harg3 arg4 harg4 v0 v3 X k acc
      = [⟨Rect.unit (s := S30x256x512) (k0_off2 k) S1x256x512.size (k0_off2_inb k),
          shapeCast S1x256x512 (addf (k0_pay5 v0 acc.1 acc.2)
            (scat (k0_pay6 v3 (edgesAt arg2 X k)) (msg3 (k0_pay6 v3 (edgesAt arg2 X k)) (k0_pay5 v0 acc.1 acc.2))))
            shapeCasts_S256x512_S1x256x512⟩] := by
  unfold tripL_k0_t1 trip_k0_t1
  rfl

end Trip

/-- What an output block should hold: the model's decisions. -/
def want (β : ℝ) (e : ℕ → Fin 1024 → ℕ) (x : Fin 512 → ℕ → ℝ) : Vec Ideal S30x256x512 .f32 :=
  fun y => ((out β e (x (y 2)) (y 0).val (y 1).val : ℝ) : EReal)

/-- A stored row holds the model's decisions of its trip. -/
theorem row_real (β : ℝ) (e : ℕ → Fin 1024 → ℕ) (x : Fin 512 → ℕ → ℝ) (k : Fin k0_t1_loop.trips) (nc s : FVec Ideal S256x512 .f32)
    (hn : Reads nc fun b r => (st β e (x b) (k.val + 1)).1 r.val)
    (hs : Reads s fun b r => (st β e (x b) (k.val + 1)).2 r.val)
    (y : (Rect.unit (s := S30x256x512) (k0_off2 k) S1x256x512.size (k0_off2_inb k)).shape.Idx) :
    shapeCast S1x256x512 (addf nc s) shapeCasts_S256x512_S1x256x512 y
      = want β e x ((Rect.unit (s := S30x256x512) (k0_off2 k) S1x256x512.size (k0_off2_inb k)).emb y) := by
  have y0 : (y 0).val = 0 := Nat.lt_one_iff.1 (y 0).isLt
  have o := k0_off2_eq k
  have e0 : ((Rect.unit (s := S30x256x512) (k0_off2 k) S1x256x512.size (k0_off2_inb k)).emb y 0).val = k.val := by
    show k0_off2 k 0 + 1 * (y 0).val = k.val
    have o0 : k0_off2 k 0 = k.val := congrFun o 0
    omega
  have e1 : ((Rect.unit (s := S30x256x512) (k0_off2 k) S1x256x512.size (k0_off2_inb k)).emb y 1).val = (y 1).val := by
    show k0_off2 k 1 + 1 * (y 1).val = (y 1).val
    have o1 : k0_off2 k 1 = 0 := congrFun o 1
    omega
  have e2 : ((Rect.unit (s := S30x256x512) (k0_off2 k) S1x256x512.size (k0_off2_inb k)).emb y 2) = (y 2) := Fin.ext (by
    show k0_off2 k 2 + 1 * (y 2).val = (y 2).val
    have o2 : k0_off2 k 2 = 0 := congrFun o 2
    omega)
  rw [want, e0, e1, e2, out, EReal.coe_add, ← hn (y 1) (y 2), ← hs (y 1) (y 2)]
  pointwise

theorem damp_real (β : ℝ) (cur ext : FVec Ideal S256x512 .f32) (s : Fin 512 → St)
    (hc : Reads cur fun b r => (s b).1 r.val) (he : Reads ext fun b r => (s b).2 r.val) :
    Reads (k0_pay5 ((β : ℝ) : EReal) cur ext) fun b r => damp β (s b) r.val := fun r b => by
  pointwise [k0_pay5]
  rw [hc r b, he r b, ← EReal.coe_mul, ← EReal.coe_add]
  rfl

variable (β : ℝ) (e : ℕ → Fin 1024 → ℕ) (x : Fin 512 → ℕ → ℝ) (x1 : Vec Ideal S30x1x1024 .i32)
  (cur0 : FVec Ideal S256x512 .f32)

/-- Before trip `n` the carried pair is the model's state, and every row stored so far is the model's. -/
theorem loop_real (he : ∀ t i, e t i < 256) (h1 : ∀ (t : Fin 30) (i : Fin 1024), x1 (ix3 t 0 i) = BitVec.ofNat 32 (e t.val i))
    (h2 : Reads cur0 fun b r => x b r.val) (n : ℕ) (hn : n ≤ 30) :
    Reads (st_k0_t1 (F := Ideal) 𝒱 c bd i arg1 harg1 arg2 harg2 arg3 harg3 arg4 harg4 ((β : ℝ) : EReal) rowNos (harg2.unread x1)
        (cur0, k0_pay2) n).1.1 (fun b r => (st β e (x b) n).1 r.val)
      ∧ Reads (st_k0_t1 (F := Ideal) 𝒱 c bd i arg1 harg1 arg2 harg2 arg3 harg3 arg4 harg4 ((β : ℝ) : EReal) rowNos (harg2.unread x1)
        (cur0, k0_pay2) n).1.2 (fun b r => (st β e (x b) n).2 r.val)
      ∧ ∀ p ∈ (st_k0_t1 (F := Ideal) 𝒱 c bd i arg1 harg1 arg2 harg2 arg3 harg3 arg4 harg4 ((β : ℝ) : EReal) rowNos (harg2.unread x1)
        (cur0, k0_pay2) n).2, ∀ y : p.1.shape.Idx, p.2 y = want β e x (p.1.emb y) := by
  induction n with
  | zero =>
    refine ⟨h2, zeros_real 256, fun p hp => absurd hp List.not_mem_nil⟩
  | succ n ih =>
    obtain ⟨ic, ie, ip⟩ := ih (by omega)
    have hk : n < k0_t1_loop.trips := by rw [trips_eq]; omega
    rw [st_k0_t1_succ 𝒱 c bd i arg1 harg1 arg2 harg2 arg3 harg3 arg4 harg4 _ _ _ _ ⟨n, hk⟩, tripR_eq, tripL_eq]
    have hoh : OneHot (k0_pay6 rowNos (edgesAt arg2 (harg2.unread x1) ⟨n, hk⟩)) (e n) := oneHot _ _ (he n) fun j => by
      rw [edgesAt, View.readAt_unit_congr _ (k0_off1_eq ⟨n, hk⟩) _ (k0_off1_eq ⟨n, hk⟩ ▸ k0_off1_inb ⟨n, hk⟩), harg2.readAt_unread,
        ← h1 ⟨n, by omega⟩ j]
      refine congrArg x1 (funext fun a => Fin.ext ?_)
      match a with
      | ⟨0, _⟩ => exact Nat.add_zero n
      | ⟨1, _⟩ => rfl
      | ⟨2, _⟩ => exact (Nat.zero_add _).trans (Nat.one_mul j.val)
    have hd := damp_real β _ _ _ ic ie
    have hs := ext_real _ (e n) hoh (he n) _ (fun b => damp β (st β e (x b) n)) hd
    refine ⟨hd, hs, fun p hp y => ?_⟩
    rcases List.mem_append.1 hp with hp | hp
    · obtain rfl := List.mem_singleton.1 hp
      exact row_real β e x ⟨n, hk⟩ _ _ hd hs y
    · exact ip p hp y

end Loop

end Cert.Proof.Ker
-- ==== Proof.KerBlock.lean ====
/- What one grid point of the decoder kernel leaves in its output block. -/
module

public import proofs.«01_k».proof.Proof.KerTrip
public import Idealize.ShloMosaic.Lib.Writes
public import Idealize.ShloMosaic.Lib.Pipeline.Value

@[expose] public section

set_option maxRecDepth 16384

noncomputable section

namespace Cert.Proof.Ker

open Idealize.ShloMosaic Idealize.ShloMosaic.TcCoe
open Cert.KernelIdeal Cert.KernelIdeal.Gen Cert.Proof.Bp

/-- A grid point whose inputs hold the factor `β`, the nodes `e` of the edges and the values `x` leaves the model's
    decisions in its output block. -/
theorem block_real (c : Dev nD) (i : grid0.Coords) (arg1 : Memref sig .tc .smem S1x1 .f32)
    (harg1 : arg1.IsWhole) (arg2 : Memref sig .tc .vmem S30x1x1024 .i32) (harg2 : arg2.IsWhole)
    (arg3 : Memref sig .tc .vmem S256x512 .f32) (harg3 : arg3.IsWhole) (arg4 : Memref sig .tc .vmem S30x256x512 .f32)
    (harg4 : arg4.IsWhole) (x0 : Vec Ideal S1x1 .f32) (x1 : Vec Ideal S30x1x1024 .i32) (x2 : Vec Ideal S256x512 .f32)
    (β : ℝ) (e : ℕ → Fin 1024 → ℕ) (x : Fin 512 → ℕ → ℝ) (he : ∀ t i, e t i < 256)
    (h0 : x0 (ix2 0 0) = ((β : ℝ) : EReal))
    (h1 : ∀ (t : Fin 30) (i : Fin 1024), x1 (ix3 t 0 i) = BitVec.ofNat 32 (e t.val i))
    (h2 : Reads x2 fun b r => x b r.val) :
    out0_A_3 (F := Ideal) c i arg1 harg1 arg2 harg2 arg3 harg3 arg4 harg4 x0 x1 x2 = want β e x := by
  funext y
  unfold out0_A_3
  refine View.read_writes_apply_of_pieces _ _ (want β e x) _ ?_ y (cover0_A_3 c i arg1 harg1 arg2 harg2 arg3 harg3 arg4 harg4 x0 x1 x2 y)
  unfold kernelRun0_A
  dsimp only
  sl_unfold_words
  have hb : View.readAt (Elt Ideal) arg1.view (Rect.unit ![0,0] S1x1.size inb_S1x1_S1x1_0_0).toLoadRect (harg1.unread x0) (Shape.Idx.first (by decide))
      = ((β : ℝ) : EReal) := by
    rw [harg1.readAt_unread, ← h0]
    refine congrArg x0 (funext fun a => Fin.ext ?_)
    match a with
    | ⟨0, _⟩ => rfl
    | ⟨1, _⟩ => rfl
  have hc : View.readAt (Elt Ideal) arg3.view (Rect.unit ![0,0] ![256,512] inb_S256x512_S256x512_0_0).toLoadRect (harg3.unread x2) = x2 := by
    funext z
    rw [harg3.readAt_unread]
    refine congrArg x2 (funext fun a => Fin.ext ?_)
    match a with
    | ⟨0, _⟩ => exact (Nat.zero_add _).trans (Nat.one_mul (z 0).val)
    | ⟨1, _⟩ => exact (Nat.zero_add _).trans (Nat.one_mul (z 1).val)
  have hp : k0_pay1 x2 = x2 := shapeCast_self _ _
  rw [hb, hc, hp]
  exact (loop_real Variants.none c none i arg1 harg1 arg2 harg2 arg3 harg3 arg4 harg4 β e x x1 x2 he h1 h2 30 le_rfl).2.2
-- ==== Proof.KerRun.lean ====
/- The kernel's result array: each grid point writes back its block of one function of the arrays the launch reads, and the
   blocks cover the array. -/
module

public import proofs.«01_k».proof.Proof.KerBlock
public import Idealize.ShloMosaic.Lib.StableHlo.ReadAt

@[expose] public section

set_option maxRecDepth 16384

noncomputable section

namespace Cert.Proof.Ker

open Idealize.ShloMosaic Idealize.ShloMosaic.TcCoe
open Cert.KernelIdeal Cert.KernelIdeal.Gen Cert.Proof.Bp

/-- Where the windows' blocks stand at grid point `t`: the first two at zero, the last two at column block `t`. -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = 0 ∧ win0_2.index t (1 : Fin 2) = t.val :=
  (by decide +kernel : ∀ t : Fin grid0.N, _)
theorem index3 : ∀ t : Fin cfg0.N, win0_3.index t (0 : Fin 3) = 0 ∧ win0_3.index t (1 : Fin 3) = 0 ∧ win0_3.index t (2 : Fin 3) = t.val :=
  (by decide +kernel : ∀ t : Fin grid0.N, _)

/-- Column `b` of block `t` as a column of the whole batch. -/
def col (t : Fin cfg0.N) (b : Fin 512) : Fin 2048 :=
  ⟨t.val * 512 + b.val, by have h : t.val < 4 := N_0 ▸ t.isLt; have := b.isLt; omega⟩

theorem emb0 (t : Fin cfg0.N) : ((cfg0.win 0).blk t).view.emb (ix2 0 0 : S1x1.Idx) = (ix2 0 0 : S1x1.Idx) := by
  obtain ⟨e0, e1⟩ := index0 t
  funext a; apply Fin.ext
  match a with
  | ⟨0, _⟩ => show win0_0.index t (0 : Fin 2) * 1 + 1 * 0 = 0; omega
  | ⟨1, _⟩ => show win0_0.index t (1 : Fin 2) * 1 + 1 * 0 = 0; omega

theorem emb1 (t : Fin cfg0.N) (k : Fin 30) (i : Fin 1024) :
    ((cfg0.win 1).blk t).view.emb (ix3 k 0 i : S30x1x1024.Idx) = (ix3 k 0 i : S30x1x1024.Idx) := by
  obtain ⟨e0, e1, e2⟩ := index1 t
  funext a; apply Fin.ext
  match a with
  | ⟨0, _⟩ => show win0_1.index t (0 : Fin 3) * 30 + 1 * k.val = k.val; omega
  | ⟨1, _⟩ => show win0_1.index t (1 : Fin 3) * 1 + 1 * 0 = 0; omega
  | ⟨2, _⟩ => show win0_1.index t (2 : Fin 3) * 1024 + 1 * i.val = i.val; omega

theorem emb2 (t : Fin cfg0.N) (r : Fin 256) (b : Fin 512) :
    ((cfg0.win 2).blk t).view.emb (ix2 r b : S256x512.Idx) = (ix2 r (col t b) : S256x2048.Idx) := by
  obtain ⟨e0, e1⟩ := index2 t
  funext a; apply Fin.ext
  match a with
  | ⟨0, _⟩ => show win0_2.index t (0 : Fin 2) * 256 + 1 * r.val = r.val; omega
  | ⟨1, _⟩ => show win0_2.index t (1 : Fin 2) * 512 + 1 * b.val = t.val * 512 + b.val; omega

theorem emb3 (t : Fin cfg0.N) (y : S30x256x512.Idx) :
    ((cfg0.win 3).blk t).view.emb y = (ix3 (y 0) (y 1) (col t (y 2)) : S30x256x2048.Idx) := by
  obtain ⟨e0, e1, e2⟩ := index3 t
  funext a; apply Fin.ext
  match a with
  | ⟨0, _⟩ => show win0_3.index t (0 : Fin 3) * 30 + 1 * (y 0).val = (y 0).val; omega
  | ⟨1, _⟩ => show win0_3.index t (1 : Fin 3) * 256 + 1 * (y 1).val = (y 1).val; omega
  | ⟨2, _⟩ => show win0_3.index t (2 : Fin 3) * 512 + 1 * (y 2).val = t.val * 512 + (y 2).val; omega

/-- The whole array of decisions. -/
def wantAll (β : ℝ) (e : ℕ → Fin 1024 → ℕ) (x : Fin 2048 → ℕ → ℝ) : Vec Ideal S30x256x2048 .f32 :=
  fun y => ((out β e (x (y 2)) (y 0).val (y 1).val : ℝ) : EReal)

variable (m : (ℓ : Loc nD τ sig) → Buf (Elt Ideal) ℓ) (ρ : Dev nD → PrngReg) (c : Dev nD)
  (β : ℝ) (e : ℕ → Fin 1024 → ℕ) (x : Fin 2048 → ℕ → ℝ)

/-- What the launch finds: the factor, the edges' variable nodes, the values of every batch column. -/
structure Found : Prop where
  lt : ∀ t i, e t i < 256
  factor : (V m c main_v6 : Vec Ideal S1x1 .f32) (ix2 0 0) = ((β : ℝ) : EReal)
  edges : ∀ (t : Fin 30) (i : Fin 1024), (V m c main_v14 : Vec Ideal S30x1x1024 .i32) (ix3 t 0 i) = BitVec.ofNat 32 (e t.val i)
  values : ∀ (r : Fin 256) (b : Fin 2048), (V m c main_v16 : Vec Ideal S256x2048 .f32) (ix2 r b) = ((x b r.val : ℝ) : EReal)

variable {m c β e x}

/-- A grid point's output block is its block of `wantAll`. -/
theorem flushed_eq (h : Found m c β e x) (t : Fin cfg0.N) :
    (dats m 0 c).flushed 3 t = ((cfg0.win 3).blk t).view.read (Elt Ideal) (wantAll β e x) := by
  show (cfg0.win 3).cut (grid0.coords t) ((dats m 0 c).after 3 t) = _
  rw [after0_3]
  unfold outsAt0
  rw [block_real c _ _ _ _ _ _ _ _ _ _ _ _ β e (fun b => x (col t b)) h.lt
    ((congrArg (V m c main_v6 : Vec Ideal S1x1 .f32) (emb0 t)).trans h.factor)
    (fun k i => (congrArg (V m c main_v14 : Vec Ideal S30x1x1024 .i32) (emb1 t k i)).trans (h.edges k i))
    (fun r b => (congrArg (V m c main_v16 : Vec Ideal S256x2048 .f32) (emb2 t r b)).trans (h.values r (col t b)))]
  funext y
  exact (congrArg (wantAll β e x) (emb3 t y)).symm

/-- The blocks cover the array. -/
theorem covered (i : S30x256x2048.Idx) : ∃ t : Fin cfg0.N, (cfg0.win 3).flush t = true ∧ i ∈ ((cfg0.win 3).blk t).view.set := by
  have hi : (i 2).val < 2048 := (i 2).isLt
  have ht : (i 2).val / 512 < cfg0.N := by rw [show cfg0.N = 4 from N_0]; omega
  refine ⟨⟨(i 2).val / 512, ht⟩, flush0_3 _, ?_⟩
  have h := ((cfg0.win 3).blk ⟨(i 2).val / 512, ht⟩).view.emb_mem_set
    (ix3 (i 0) (i 1) (⟨(i 2).val % 512, Nat.mod_lt _ (by decide)⟩ : Fin 512) : S30x256x512.Idx)
  rw [emb3] at h
  have q : (ix3 (i 0) (i 1) (col ⟨(i 2).val / 512, ht⟩ ⟨(i 2).val % 512, Nat.mod_lt _ (by decide)⟩) : S30x256x2048.Idx) = i := by
    funext a; apply Fin.ext
    match a with
    | ⟨0, _⟩ => rfl
    | ⟨1, _⟩ => rfl
    | ⟨2, _⟩ => show (i 2).val / 512 * 512 + (i 2).val % 512 = (i 2).val; omega
  exact Eq.mp (congrArg (· ∈ ((cfg0.win 3).blk ⟨(i 2).val / 512, ht⟩).view.set) q) h

/-- So the array the launch writes holds every decision. -/
theorem array_eq (h : Found m c β e x) : (dats m 0 c).arrAt 3 cfg0.N = wantAll β e x :=
  (dats m 0 c).arrAt_eq_of_cover 3 (wantAll β e x) (fun t _ => flushed_eq h t) covered

/-- The result buffer's contents: the decisions of the 255 variable nodes. -/
def decisions (β : ℝ) (e : ℕ → Fin 1024 → ℕ) (x : Fin 2048 → ℕ → ℝ) : Vec Ideal S30x255x2048 .f32 :=
  fun y => ((out β e (x (y 2)) (y 0).val (y 1).val : ℝ) : EReal)

/-- After the host line that drops the padded row the result buffer holds the decisions. -/
theorem result_eq (h : Found m c β e x) :
    Pipeline.afterTail₀ cfgs (dats m) 0 (V0 m) [hostOps1] c main_v18 = decisions β e x := by
  unfold Pipeline.afterTail₀
  funext y
  after_reads_at
  exact congrFun ((Pipeline.withArrays_arr spec0 launch0.win.arr_inj c (V0 m c)
    (fun w => (dats m 0 c).arrAt w cfg0.N) 3).trans (array_eq h)) _

/-- The kernel's run: it terminates with the decisions in the result buffer and the arguments unchanged. -/
theorem run (e : Dev nD → ℕ → Fin 1024 → ℕ) (β : Dev nD → ℝ) (x : Dev nD → Fin 2048 → ℕ → ℝ)
    (h : ∀ c, Found m c (β c) (e c) (x c)) :
    θ_run defs (onTc (τ := τ) (main (F := Ideal))) ⟨m, fun _ => 0, ρ⟩ (fun r => ∀ c : Dev nD,
      r.2.mem ((c.tc : Thread nD τ).loc main_v18) = decisions (β c) (e c) (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr c).2 main_v18 (by decide)).trans (result_eq (h c)),
    ((hr c).2 main_arg0 (by decide)).trans (W_main_arg0 m (dats m) c),
    ((hr c).2 main_arg1 (by decide)).trans (W_main_arg1 m (dats m) c),
    ((hr c).2 main_arg2 (by decide)).trans (W_main_arg2 m (dats m) c),
    ((hr c).2 main_arg3 (by decide)).trans (W_main_arg3 m (dats m) c),
    ((hr c).2 main_arg4 (by decide)).trans (W_main_arg4 m (dats m) c),
    ((hr c).2 main_arg5 (by decide)).trans (W_main_arg5 m (dats m) c)⟩) (run_main m ρ)

end Cert.Proof.Ker
-- ==== Proof.KerHost.lean ====
/- The kernel's host lines before the launch: from the arguments the precondition allows they form what the launch finds —
   the damping factor, the permuted variable node of every edge, and the channel values with one more row of zeros. -/
module

public import proofs.«01_k».proof.Proof.KerRun
public import proofs.«01_k».proof.Proof.Inputs
public import Idealize.ShloMosaic.Lib.StableHlo.Predicate
public import Idealize.ShloMosaic.Lib.Routing.OpsPair

@[expose] public section

set_option maxRecDepth 16384

noncomputable section

namespace Cert.Proof.Ker

open Idealize.ShloMosaic Idealize.ShloMosaic.TcCoe
open Cert.KernelIdeal Cert.KernelIdeal.Gen Cert.Proof.Bp

/-- Gathering columns of the permutation table: where the index array names a column below 255, that column. -/
theorem gather_col (x : IVec S30x255 32) (idx : IVec S1024x1 32) (t : Fin 30) (i : Fin 1024) (b : Fin 255)
    (hb : idx (ix2 i 0) = BitVec.ofNat 32 b.val) :
    Host.gather gather_S30x255_S1024x1_S30x1024_0_1_n_n_1_1_301 x idx (ix2 t i) = x (ix2 t b) := by
  unfold Host.gather
  refine congrArg x (funext fun a => Fin.ext ?_)
  match a with
  | ⟨0, _⟩ => exact Nat.zero_add t.val
  | ⟨1, _⟩ =>
    have hs : (gather_S30x255_S1024x1_S30x1024_0_1_n_n_1_1_301.siIdx (ix2 t i) ⟨0, by decide⟩ : S1024x1.Idx) = ix2 i 0 := by
      funext a
      match a with
      | ⟨0, _⟩ => rfl
      | ⟨1, _⟩ => rfl
    have hbl := b.isLt
    have h : gather_S30x255_S1024x1_S30x1024_0_1_n_n_1_1_301.start (ix2 t i) idx 1 = b.val := by
      show min (idx (gather_S30x255_S1024x1_S30x1024_0_1_n_n_1_1_301.siIdx (ix2 t i) ⟨0, by decide⟩)).toInt.toNat (255 - 1) = b.val
      rw [hs, hb, StableHlo.Predicate.toInt_ofNat_small _ (by omega)]
      omega
    exact h

variable (m : (ℓ : Loc nD τ sig) → Buf (Elt Ideal) ℓ) (c : Dev nD) (β : ℝ) (x : Fin 2048 → ℕ → ℝ) (ev : Fin 1024 → Fin 255)
    (perm inv : Fin 30 → Fin 255 → Fin 255)

/-- What the launch finds, from the arguments. -/
theorem found (h : Inputs (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) β x ev perm inv) : Found m c β (nodes perm ev) x where
  lt := nodes_lt perm ev
  factor := by
    show StableHlo.after _ _ _ _ = _
    unfold hostOps0
    after_reads_at
    exact h.factor
  edges t i := by
    show StableHlo.after _ _ _ _ = _
    unfold hostOps0
    after_reads_at
    rw [nodes_of_lt]
    refine (gather_col _ _ t i (ev i) ?_).trans (h.perms t (ev i))
    have hv : (m (c, Proc.tc.devRef main_arg2) : IVec S1024 32) (ix1 i) = BitVec.ofNat 32 (ev i).val := h.vars i
    have hl := (ev i).isLt
    pointwise
    rw [hv]
    exact Routing.wrap_of_lt _ _ (by rw [BitVec.toNat_ofNat]; omega)
  values r b := by
    show StableHlo.after _ _ _ _ = _
    unfold hostOps0
    after_reads_at
    split
    · next hr => exact h.value ⟨r.val, hr⟩ b
    · next hr => rw [h.pad b r.val (Nat.le_of_not_lt hr)]; rfl

end Cert.Proof.Ker
-- ==== Proof.Rows.lean ====
/- Sums scattered to rows: an array of 1024 update rows added into a table at the rows an index array names holds, at each
   entry, the sum of the updates sent there. -/
module

public import Idealize.ShloMosaic.Lib.Pointwise
public import Idealize.ShloMosaic.Lib.Pointwise.IndexBridge
public import Idealize.ShloMosaic.Lib.Routing.OpsPair
public import Idealize.ShloMosaic.Lib.StableHlo.Predicate
public import Idealize.ShloMosaic.Lib.ValueIdxCore

@[expose] public section

noncomputable section

namespace Cert.Proof.Bp

open Idealize.ShloMosaic

/-- A table whose rows gather the updates of 1024 edges: edge `i`'s row goes to row `e i`. The four hypotheses on the
    dimension numbers say that an update's row names the table's row through the index array and its column is kept. -/
theorem scatter_rows {R B : Nat} (d : ScatterDims ⟨2, ![R, B]⟩ ⟨2, ![1024, 1]⟩ ⟨2, ![1024, B]⟩)
    (idx : IVec ⟨2, ![1024, 1]⟩ 32)
    (s0 : ∀ (i : Fin 1024) (b : Fin B), d.start (ix2 i b) idx 0 = (idx (ix2 i 0)).toInt)
    (s1 : ∀ (i : Fin 1024) (b : Fin B), d.start (ix2 i b) idx 1 = 0)
    (w0 : ∀ (i : Fin 1024) (b : Fin B), d.window (ix2 i b) 0 = 0)
    (w1 : ∀ (i : Fin 1024) (b : Fin B), d.window (ix2 i b) 1 = b.val)
    (z : FVec Ideal ⟨2, ![R, B]⟩ .f32) (upd : FVec Ideal ⟨2, ![1024, B]⟩ .f32) (e : Fin 1024 → Fin R) (hR : R < 2 ^ 31)
    (he : ∀ i : Fin 1024, idx (ix2 i 0) = BitVec.ofNat 32 (e i).val) (r : Fin R) (b : Fin B) :
    (Host.scatterAdd d z idx upd : FVec Ideal ⟨2, ![R, B]⟩ .f32) (ix2 r b)
      = z (ix2 r b) + ∑ i, if (e i).val = r.val then upd (ix2 i b) else 0 := by
  classical
  have hit : ∀ (i : Fin 1024) (b' : Fin B), d.resultIdx? (ix2 i b') idx = some (ix2 r b) ↔ (e i).val = r.val ∧ b' = b := by
    intro i b'
    refine (Routing.resultIdx?_ix2 d (ix2 i b') idx r b).trans ?_
    have hl := (e i).isLt
    rw [s0, s1, w0, w1, he, StableHlo.Predicate.toInt_ofNat_small _ (by omega), Fin.ext_iff]
    omega
  show z (ix2 r b) + ∑ j ∈ Finset.univ.filter (fun j => d.resultIdx? j idx = some (ix2 r b)), upd j = _
  rw [Finset.sum_filter]
  refine congrArg (z (ix2 r b) + ·) ((ValueIdx.sum_idx2 _).trans (Finset.sum_congr rfl fun i _ => ?_))
  by_cases h : (e i).val = r.val
  · rw [if_pos h, Finset.sum_eq_single b]
    · exact if_pos ((hit i b).2 ⟨h, rfl⟩)
    · intro b' _ hb
      exact if_neg fun q => hb ((hit i b').1 q).2
    · exact fun q => absurd (Finset.mem_univ b) q
  · rw [if_neg h]
    exact Finset.sum_eq_zero fun b' _ => if_neg fun q => h ((hit i b').1 q).1

/-- An index word below half the word range is left alone by the wrap of negative indices. -/
theorem wrap_word (n k : Nat) (h : n < 2 ^ 31) (w : BitVec 32) (e : w = BitVec.ofNat 32 n) :
    Scalar.select (IntOp.cmpi .slt w 0#32) (IntOp.addi w (BitVec.ofNat 32 k)) w = BitVec.ofNat 32 n := by
  subst e
  exact Routing.wrap_of_lt _ _ (by rw [BitVec.toNat_ofNat]; omega)

end Cert.Proof.Bp
-- ==== Proof.RefMath.lean ====
/- The reference's arithmetic, read at an index: one of its message updates is the model's on every batch column, the
   channel values and messages being real. -/
module

public import proofs.«01_k».proof.Proof.Reals
public import proofs.«01_k».proof.Proof.Rows
public import proofs.«01_k».proof.Proof.Gen.ReferenceIdeal
public import Idealize.ShloMosaic.Lib.Routing.Ops

@[expose] public section

set_option maxRecDepth 16384

noncomputable section

namespace Cert.Proof.Ref

open Idealize.ShloMosaic
open Cert.ReferenceIdeal Cert.ReferenceIdeal.Gen Cert.Proof.Bp

/-- The array holds the real number `f b r` at row `r`, column `b`. -/
def Reads {n : Nat} (v : FVec Ideal ⟨2, ![n, 2048]⟩ .f32) (f : Fin 2048 → Fin n → ℝ) : Prop :=
  ∀ (r : Fin n) (b : Fin 2048), v (ix2 r b) = ((f b r : ℝ) : EReal)

/-! ### Taking rows and summing to rows -/

/-- Rows of the nodes' table, one per edge. -/
def takeV (x : FVec Ideal S255x2048 .f32) (ix : IVec S1024 32) : FVec Ideal S1024x2048 .f32 :=
  Host.gather gather_S255x2048_S1024x1_S1024x2048_1_0_n_n_0_1_12048 x
    (broadcastInDim S1024x1 ![0] bcast_S1024_S1024x1_0
      (select (cmpi .slt ix (broadcastInDim S1024 ![] bcast_S_S1024 (constantI S_ 32 0#32)))
        (addi ix (broadcastInDim S1024 ![] bcast_S_S1024 (constantI S_ 32 255#32))) ix))

/-- Rows of the check nodes' table, one per edge. -/
def takeC (x : FVec Ideal S128x2048 .f32) (ix : IVec S1024 32) : FVec Ideal S1024x2048 .f32 :=
  Host.gather gather_S128x2048_S1024x1_S1024x2048_1_0_n_n_0_1_12048 x
    (broadcastInDim S1024x1 ![0] bcast_S1024_S1024x1_0
      (select (cmpi .slt ix (broadcastInDim S1024 ![] bcast_S_S1024 (constantI S_ 32 0#32)))
        (addi ix (broadcastInDim S1024 ![] bcast_S_S1024 (constantI S_ 32 128#32))) ix))

/-- Rows of the nodes' table in another order. -/
def takeP (x : FVec Ideal S255x2048 .f32) (ix : IVec S255 32) : FVec Ideal S255x2048 .f32 :=
  Host.gather gather_S255x2048_S255x1_S255x2048_1_0_n_n_0_1_12048 x
    (broadcastInDim S255x1 ![0] bcast_S255_S255x1_0
      (select (cmpi .slt ix (broadcastInDim S255 ![] bcast_S_S255 (constantI S_ 32 0#32)))
        (addi ix (broadcastInDim S255 ![] bcast_S_S255 (constantI S_ 32 255#32))) ix))

/-- The sum at every variable node of its edges' rows. -/
def sumV (u : FVec Ideal S1024x2048 .f32) (ix : IVec S1024 32) : FVec Ideal S255x2048 .f32 :=
  Host.scatterAdd scatter_S255x2048_S1024x1_S1024x2048_1_0_0_1
    (broadcastInDim S255x2048 ![] bcast_S_S255x2048 (constant S_ .f32 0x00000000#32))
    (broadcastInDim S1024x1 ![0] bcast_S1024_S1024x1_0 ix) u

/-- The sum at every check node of its edges' rows. -/
def sumC (u : FVec Ideal S1024x2048 .f32) (ix : IVec S1024 32) : FVec Ideal S128x2048 .f32 :=
  Host.scatterAdd scatter_S128x2048_S1024x1_S1024x2048_1_0_0_1
    (broadcastInDim S128x2048 ![] bcast_S_S128x2048 (constant S_ .f32 0x00000000#32))
    (broadcastInDim S1024x1 ![0] bcast_S1024_S1024x1_0 ix) u

section Rows

variable (ix : IVec S1024 32)

/-- The wrapped index array of `takeV`, `takeC` and `takeP` holds the same row numbers. -/
theorem wrapped {k : ℕ} (i : Fin 1024) (n : ℕ) (hn : n < 2 ^ 31) (h : ix (ix1 i) = BitVec.ofNat 32 n) :
    (broadcastInDim S1024x1 ![0] bcast_S1024_S1024x1_0
      (select (cmpi .slt ix (broadcastInDim S1024 ![] bcast_S_S1024 (constantI S_ 32 0#32)))
        (addi ix (broadcastInDim S1024 ![] bcast_S_S1024 (constantI S_ 32 (BitVec.ofNat 32 k)))) ix) : IVec S1024x1 32) (ix2 i 0)
      = BitVec.ofNat 32 n := by
  pointwise
  exact wrap_word n k hn _ h

theorem takeV_at (x : FVec Ideal S255x2048 .f32) (i : Fin 1024) (b : Fin 2048) (v : Fin 255)
    (h : ix (ix1 i) = BitVec.ofNat 32 v.val) : takeV x ix (ix2 i b) = x (ix2 v b) :=
  Routing.gather_row _ rfl rfl rfl rfl rfl x _ i b v (wrapped ix (k := 255) i v.val (by omega) h) (by decide)

theorem takeC_at (x : FVec Ideal S128x2048 .f32) (i : Fin 1024) (b : Fin 2048) (v : Fin 128)
    (h : ix (ix1 i) = BitVec.ofNat 32 v.val) : takeC x ix (ix2 i b) = x (ix2 v b) :=
  Routing.gather_row _ rfl rfl rfl rfl rfl x _ i b v (wrapped ix (k := 128) i v.val (by omega) h) (by decide)

theorem takeP_at (ix : IVec S255 32) (x : FVec Ideal S255x2048 .f32) (i : Fin 255) (b : Fin 2048) (v : Fin 255)
    (h : ix (ix1 i) = BitVec.ofNat 32 v.val) : takeP x ix (ix2 i b) = x (ix2 v b) :=
  Routing.gather_row _ rfl rfl rfl rfl rfl x _ i b v (by
    pointwise
    exact wrap_word v.val 255 (by omega) _ h) (by decide)

theorem sumV_at (u : FVec Ideal S1024x2048 .f32) (e : Fin 1024 → Fin 255) (h : ∀ i : Fin 1024, ix (ix1 i) = BitVec.ofNat 32 (e i).val)
    (v : Fin 255) (b : Fin 2048) : sumV u ix (ix2 v b) = ∑ i, if (e i).val = v.val then u (ix2 i b) else 0 := by
  refine (scatter_rows _ _ (fun i b => ?_) (fun i b => rfl) (fun i b => rfl) (fun i b => rfl) _ u e (by decide) (fun i => ?_) v b).trans ?_
  · refine congrArg (fun q => (broadcastInDim S1024x1 ![0] bcast_S1024_S1024x1_0 ix q).toInt) (funext fun a => ?_)
    match a with
    | ⟨0, _⟩ => rfl
    | ⟨1, _⟩ => rfl
  · pointwise
    exact h i
  · pointwise

theorem sumC_at (u : FVec Ideal S1024x2048 .f32) (e : Fin 1024 → Fin 128) (h : ∀ i : Fin 1024, ix (ix1 i) = BitVec.ofNat 32 (e i).val)
    (v : Fin 128) (b : Fin 2048) : sumC u ix (ix2 v b) = ∑ i, if (e i).val = v.val then u (ix2 i b) else 0 := by
  refine (scatter_rows _ _ (fun i b => ?_) (fun i b => rfl) (fun i b => rfl) (fun i b => rfl) _ u e (by decide) (fun i => ?_) v b).trans ?_
  · refine congrArg (fun q => (broadcastInDim S1024x1 ![0] bcast_S1024_S1024x1_0 ix q).toInt) (funext fun a => ?_)
    match a with
    | ⟨0, _⟩ => rfl
    | ⟨1, _⟩ => rfl
  · pointwise
    exact h i
  · pointwise

end Rows

/-! ### A check-node update -/

/-- A matrix of one number. -/
def full (w : BitVec 32) : FVec Ideal S1024x2048 .f32 :=
  broadcastInDim S1024x2048 ![] bcast_S_S1024x2048 (constant S_ .f32 w)

/-- The clipped hyperbolic tangents of half the messages. -/
def tanhs (v : FVec Ideal S1024x2048 .f32) : FVec Ideal S1024x2048 .f32 :=
  Host.tanh (minimumf (full 0x41700000#32) (maximumf (full 0xC1700000#32) (mulf (full 0x3F000000#32) v)))

/-- The logarithms of the magnitudes. -/
def lmags (t : FVec Ideal S1024x2048 .f32) : FVec Ideal S1024x2048 .f32 :=
  Host.log (addf (Host.absf t) (full 0x2B8CBCCC#32))

/-- The signs, one for a negative. -/
def negs (t : FVec Ideal S1024x2048 .f32) : FVec Ideal S1024x2048 .f32 :=
  uitofp .f32 (cmpf .olt t (full 0x00000000#32))

/-- The sums over the other edges of a check node. -/
def rest (ix : IVec S1024 32) (u : FVec Ideal S1024x2048 .f32) : FVec Ideal S1024x2048 .f32 :=
  subf (takeC (sumC u ix) ix) u

/-- The remainder modulo two: towards zero first, two added to what is negative. -/
def parity (d : FVec Ideal S1024x2048 .f32) : FVec Ideal S1024x2048 .f32 :=
  select (andi (cmpi .ne (cmpf .olt (Host.remf d (full 0x40000000#32)) (full 0x00000000#32))
      (broadcastInDim S1024x2048 ![] bcast_S_S1024x2048
        (cmpf .olt (constant S_ .f32 0x40000000#32 : FVec Ideal S_ .f32) (constant S_ .f32 0x00000000#32))))
    (cmpf .une (Host.remf d (full 0x40000000#32)) (full 0x00000000#32)))
    (addf (Host.remf d (full 0x40000000#32)) (full 0x40000000#32)) (Host.remf d (full 0x40000000#32))

/-- The clipped signed product. -/
def signed (d m : FVec Ideal S1024x2048 .f32) : FVec Ideal S1024x2048 .f32 :=
  minimumf (full 0x3F7FFFEF#32) (maximumf (full 0xBF7FFFEF#32)
    (mulf (subf (full 0x3F800000#32) (mulf (full 0x40000000#32) (parity d))) (Host.exp m)))

/-- The check-node messages. -/
def hostCheck (ix : IVec S1024 32) (v : FVec Ideal S1024x2048 .f32) : FVec Ideal S1024x2048 .f32 :=
  mulf (full 0x40000000#32) (Host.atanh (signed (rest ix (negs (tanhs v))) (rest ix (lmags (tanhs v)))))

theorem tanhs_real (v : FVec Ideal S1024x2048 .f32) (h : Fin 2048 → Fin 1024 → ℝ) (hv : Reads v h) :
    Reads (tanhs v) fun b i => th (1 / 2 * h b i) := fun i b => by
  pointwise [tanhs, full]
  rw [hv i b, lit_half, ← EReal.coe_mul]
  exact th_real _

theorem lmags_real (t : FVec Ideal S1024x2048 .f32) (h : Fin 2048 → Fin 1024 → ℝ) (ht : Reads t fun b i => th (h b i)) :
    Reads (lmags t) fun b i => lmag (h b i) := fun i b => by
  pointwise [lmags, full]
  rw [ht i b]
  exact lmag_real _

theorem negs_real (t : FVec Ideal S1024x2048 .f32) (h : Fin 2048 → Fin 1024 → ℝ) (ht : Reads t fun b i => th (h b i)) :
    Reads (negs t) fun b i => neg (h b i) := fun i b => by
  pointwise [negs, full]
  rw [ht i b]
  unfold neg
  simp only [EReal.coe_neg']
  by_cases q : th (h b i) < 0
  · rw [if_pos q, decide_eq_true q]
    exact congrArg Real.toEReal Nat.cast_one
  · rw [if_neg q, decide_eq_false q]
    exact congrArg Real.toEReal Nat.cast_zero

/-- The sum over the edges of a check node is the sum over the eight edges that share it. -/
theorem mates_sum (f : Fin 1024 → ℝ) (i : Fin 1024) :
    (∑ k : Fin 1024, if k.val / 8 = i.val / 8 then f k else 0) = ∑ k : Fin 8, f (mate i k) := by
  rw [← Finset.sum_filter]
  symm
  refine Finset.sum_bij (fun k _ => mate i k) ?_ ?_ ?_ ?_
  · intro k _
    refine Finset.mem_filter.2 ⟨Finset.mem_univ _, ?_⟩
    show (8 * (i.val / 8) + k.val) / 8 = i.val / 8
    omega
  · intro k _ l _ h
    have := congrArg Fin.val h
    refine Fin.ext ?_
    change 8 * (i.val / 8) + k.val = 8 * (i.val / 8) + l.val at this
    omega
  · intro k hk
    have := (Finset.mem_filter.1 hk).2
    refine ⟨⟨k.val % 8, by omega⟩, Finset.mem_univ _, Fin.ext ?_⟩
    show 8 * (i.val / 8) + k.val % 8 = k.val
    omega
  · intro k _
    rfl

/-- The check node of every edge. -/
def chk (i : Fin 1024) : Fin 128 := ⟨i.val / 8, by omega⟩

theorem rest_real (ix : IVec S1024 32) (hix : ∀ i : Fin 1024, ix (ix1 i) = BitVec.ofNat 32 (i.val / 8))
    (u : FVec Ideal S1024x2048 .f32) (g : Fin 2048 → Fin 1024 → ℝ) (hu : Reads u g) :
    Reads (rest ix u) fun b i => others (g b) i := fun i b => by
  show takeC (sumC u ix) ix (ix2 i b) - u (ix2 i b) = ((others (g b) i : ℝ) : EReal)
  rw [takeC_at ix _ i b (chk i) (hix i), sumC_at ix u chk hix, others, EReal.coe_sub, hu i b, ← mates_sum, ← coe_sum]
  refine congrArg (· - _) (Finset.sum_congr rfl fun k _ => ?_)
  rw [hu k b]
  show (if k.val / 8 = i.val / 8 then _ else _) = _
  split <;> rfl

theorem parity_real (d : FVec Ideal S1024x2048 .f32) (g : Fin 2048 → Fin 1024 → ℝ) (hd : Reads d g) :
    Reads (parity d) fun b i => mod2 (g b i) := fun i b => by
  pointwise [parity, full]
  rw [hd i b]
  refine Eq.trans ?_ (congrArg Real.toEReal (mod2_of_rem (g b i)))
  have h2 : ¬ ((2 : ℝ) : EReal) < 0 := not_lt.2 (EReal.coe_nonneg.2 zero_le_two)
  rw [lit_two, Ideal.remf_coe, if_neg two_ne_zero, decide_eq_false h2]
  generalize g b i - 2 * (Ideal.truncInt (g b i / 2) : ℝ) = r
  by_cases q : r < 0
  · rw [if_pos q, decide_eq_true (show ((r : ℝ) : EReal) < 0 from EReal.coe_neg'.2 q),
      decide_eq_true (show ((r : ℝ) : EReal) ≠ 0 from fun z => q.ne (EReal.coe_eq_zero.1 z)), EReal.coe_add]
    rfl
  · rw [if_neg q, decide_eq_false (show ¬ ((r : ℝ) : EReal) < 0 from fun z => q (EReal.coe_neg'.1 z))]
    exact if_neg (by
      generalize decide (((r : ℝ) : EReal) ≠ 0) = w
      revert w
      decide)

theorem signed_real (d m : FVec Ideal S1024x2048 .f32) (d' m' : Fin 2048 → Fin 1024 → ℝ) (hd : Reads d d') (hm : Reads m m') :
    Reads (signed d m) fun b i => min bound (max (-bound) ((1 - 2 * mod2 (d' b i)) * Real.exp (m' b i))) := fun i b => by
  pointwise [signed, full]
  rw [parity_real d d' hd i b, hm i b, lit_two]
  rw [← EReal.coe_mul, ← EReal.coe_one, ← EReal.coe_sub, Ideal.exp_coe, ← EReal.coe_mul]
  exact clip_real _

theorem check_real (ix : IVec S1024 32) (hix : ∀ i : Fin 1024, ix (ix1 i) = BitVec.ofNat 32 (i.val / 8))
    (v : FVec Ideal S1024x2048 .f32) (h : Fin 2048 → Fin 1024 → ℝ) (hv : Reads v h) :
    Reads (hostCheck ix v) fun b i => check (h b) i := fun i b => by
  have t := tanhs_real v h hv
  have q := signed_real _ _ _ _ (rest_real ix hix _ _ (negs_real _ (fun b i => 1 / 2 * h b i) t))
    (rest_real ix hix _ _ (lmags_real _ (fun b i => 1 / 2 * h b i) t)) i b
  show full 0x40000000#32 (ix2 i b) * Ideal.atanh (signed _ _ (ix2 i b)) = _
  rw [q]
  exact atanh_real (prod_mem (fun k => 1 / 2 * h b k) i)

/-! ### An iteration -/

/-- One iteration of belief propagation. -/
def hostIter (nc : FVec Ideal S255x2048 .f32) (ev ix : IVec S1024 32) (msg : FVec Ideal S1024x2048 .f32) :
    FVec Ideal S1024x2048 .f32 :=
  hostCheck ix (subf (addf (takeV nc ev) (takeV (sumV msg ev) ev)) msg)

theorem sumV_real (ev : IVec S1024 32) (e : Fin 1024 → Fin 255) (he : ∀ i : Fin 1024, ev (ix1 i) = BitVec.ofNat 32 (e i).val)
    (u : FVec Ideal S1024x2048 .f32) (g : Fin 2048 → Fin 1024 → ℝ) (hu : Reads u g) :
    Reads (sumV u ev) fun b v => sums (fun i => (e i).val) (g b) v.val := fun v b => by
  show _ = ((sums (fun i => (e i).val) (g b) v.val : ℝ) : EReal)
  rw [sumV_at ev u e he, sums, ← coe_sum]
  refine Finset.sum_congr rfl fun k _ => ?_
  rw [hu k b]
  split <;> rfl

theorem iter_real (ev ix : IVec S1024 32) (e : Fin 1024 → Fin 255) (he : ∀ i : Fin 1024, ev (ix1 i) = BitVec.ofNat 32 (e i).val)
    (hix : ∀ i : Fin 1024, ix (ix1 i) = BitVec.ofNat 32 (i.val / 8))
    (nc : FVec Ideal S255x2048 .f32) (x : Fin 2048 → ℕ → ℝ) (hx : Reads nc fun b r => x b r.val)
    (u : FVec Ideal S1024x2048 .f32) (g : Fin 2048 → Fin 1024 → ℝ) (hu : Reads u g) :
    Reads (hostIter nc ev ix u) fun b i => check (varMsg (x b) (fun i => (e i).val) (g b)) i := by
  refine check_real ix hix _ (fun b i => varMsg (x b) (fun i => (e i).val) (g b) i) fun i b => ?_
  show takeV nc ev (ix2 i b) + takeV (sumV u ev) ev (ix2 i b) - u (ix2 i b) = ((varMsg (x b) (fun i => (e i).val) (g b) i : ℝ) : EReal)
  rw [takeV_at ev nc i b (e i) (he i), takeV_at ev (sumV u ev) i b (e i) (he i), hx, sumV_real ev e he u g hu, hu i b, varMsg,
    EReal.coe_sub, EReal.coe_add]

end Cert.Proof.Ref
-- ==== Proof.RefTrip.lean ====
/- One trip of the reference's loop: the damped channel values are taken in permuted order, three message updates are
   made, and the sums are taken back in the first order. It is the model's outer iteration on the permuted code. -/
module

public import proofs.«01_k».proof.Proof.RefMath
public import proofs.«01_k».proof.Proof.Inputs
public import Idealize.ShloMosaic.Lib.DynamicIndex

@[expose] public section

set_option maxRecDepth 16384

noncomputable section

namespace Cert.Proof.Ref

open Idealize.ShloMosaic
open Cert.ReferenceIdeal Cert.ReferenceIdeal.Gen Cert.Proof.Bp

/-! ### Renamed nodes -/

/-- A renaming of the 255 nodes, on all numbers. -/
def onNat (p : Fin 255 → Fin 255) (v : ℕ) : ℕ := if h : v < 255 then (p ⟨v, h⟩).val else v

theorem onNat_val (p : Fin 255 → Fin 255) (v : Fin 255) : onNat p v.val = (p v).val := dif_pos v.isLt

/-- Messages on the code whose nodes are renamed by an injection are the messages on the first code, its channel
    values being renamed. -/
theorem bp_comp (nc : ℕ → ℝ) (e : Fin 1024 → Fin 255) (p : Fin 255 → Fin 255) (hp : Function.Injective p) (n : ℕ) :
    bp (fun v => nc (onNat p v)) (fun i => (e i).val) n = bp nc (fun i => (p (e i)).val) n := by
  induction n with
  | zero => rfl
  | succ n ih =>
    show check (varMsg _ _ _) = check (varMsg _ _ _)
    rw [ih]
    refine congrArg check (funext fun i => ?_)
    show nc (onNat p (e i).val) + sums (fun i => (e i).val) _ (e i).val - _ = nc (p (e i)).val + sums _ _ (p (e i)).val - _
    rw [sums_comp (fun i => (e i).val) (onNat p) _ (e i).val fun k h => by
      rw [onNat_val, onNat_val] at h
      exact congrArg Fin.val (hp (Fin.ext h))]
    simp only [onNat_val]

/-! ### The trip's own values -/

/-- Three message updates on the channel values `nc`. -/
def hostMsgs (nc : FVec Ideal S255x2048 .f32) (ev ix : IVec S1024 32) : FVec Ideal S1024x2048 .f32 :=
  hostIter nc ev ix (hostIter nc ev ix (hostIter nc ev ix (full 0x00000000#32)))

/-- The decisions of a trip, in the first order of the nodes. -/
def hostTurn (cur : FVec Ideal S255x2048 .f32) (p q : IVec S255 32) (ev ix : IVec S1024 32) : FVec Ideal S255x2048 .f32 :=
  takeP (addf (takeP cur p) (sumV (hostMsgs (takeP cur p) ev ix) ev)) q

theorem msgs_real (ev ix : IVec S1024 32) (e : Fin 1024 → Fin 255) (he : ∀ i : Fin 1024, ev (ix1 i) = BitVec.ofNat 32 (e i).val)
    (hix : ∀ i : Fin 1024, ix (ix1 i) = BitVec.ofNat 32 (i.val / 8))
    (nc : FVec Ideal S255x2048 .f32) (x : Fin 2048 → ℕ → ℝ) (hx : Reads nc fun b r => x b r.val) :
    Reads (hostMsgs nc ev ix) fun b i => bp (x b) (fun i => (e i).val) 3 i := by
  have z : Reads (full 0x00000000#32) fun b i => bp (x b) (fun i => (e i).val) 0 i := fun i b => by
    show Ideal.ofBits .f32 0x00000000#32 = ((0 : ℝ) : EReal)
    exact lit_zero
  have s := fun (n : ℕ) u (h : Reads u fun b i => bp (x b) (fun i => (e i).val) n i) =>
    (iter_real ev ix e he hix nc x hx u _ h : Reads _ fun b i => bp (x b) (fun i => (e i).val) (n + 1) i)
  exact s 2 _ (s 1 _ (s 0 _ z))

theorem turn_real (ev ix : IVec S1024 32) (e : Fin 1024 → Fin 255) (he : ∀ i : Fin 1024, ev (ix1 i) = BitVec.ofNat 32 (e i).val)
    (hix : ∀ i : Fin 1024, ix (ix1 i) = BitVec.ofNat 32 (i.val / 8)) (p q : IVec S255 32) (pn qn : Fin 255 → Fin 255)
    (hp : ∀ r : Fin 255, p (ix1 r) = BitVec.ofNat 32 (pn r).val) (hq : ∀ r : Fin 255, q (ix1 r) = BitVec.ofNat 32 (qn r).val)
    (inv : ∀ r s, pn r = s ↔ qn s = r)
    (cur : FVec Ideal S255x2048 .f32) (x : Fin 2048 → ℕ → ℝ) (hx : Reads cur fun b r => x b r.val) :
    Reads (hostTurn cur p q ev ix) fun b r =>
      x b r.val + sums (fun i => (pn (e i)).val) (bp (x b) (fun i => (pn (e i)).val) 3) r.val := fun r b => by
  have inj : Function.Injective pn := fun r s h => ((inv r _).1 rfl).symm.trans ((inv s _).1 h.symm)
  have soft : Reads (takeP cur p) fun b v => x b (onNat pn v.val) := fun v b => by
    rw [takeP_at p cur v b (pn v) (hp v), hx]
    exact congrArg (fun w => ((x b w : ℝ) : EReal)) (onNat_val pn v).symm
  have m := msgs_real ev ix e he hix (takeP cur p) (fun b v => x b (onNat pn v)) soft
  have back : pn (qn r) = r := (inv _ _).2 rfl
  show takeP _ q (ix2 r b) = _
  rw [takeP_at q _ r b (qn r) (hq r)]
  show takeP cur p (ix2 (qn r) b) + sumV _ ev (ix2 (qn r) b)
    = ((x b r.val + sums (fun i => (pn (e i)).val) (bp (x b) (fun i => (pn (e i)).val) 3) r.val : ℝ) : EReal)
  rw [soft, sumV_real ev e he _ _ m, ← EReal.coe_add]
  show ((x b (onNat pn (qn r).val) + sums _ (bp _ _ 3) (qn r).val : ℝ) : EReal) = _
  rw [bp_comp _ _ _ inj, sums_comp (fun i => (e i).val) (onNat pn) _ (qn r).val fun k h => by
    rw [onNat_val, onNat_val] at h
    exact congrArg Fin.val (inj (Fin.ext h))]
  simp only [onNat_val, back]

/-! ### Rows by number -/

section Rows

variable (j : ℕ)

/-- The slice of one row at the trip's number is that row. -/
theorem slice_row (x : IVec S30x255 32) (hj : j < 30) (r : Fin 255) :
    (shapeCast S255 (Host.dynamicSlice S1x255 x (fun k =>
      ((![constantI S_ 32 (BitVec.ofNat 32 j), constantI S_ 32 0#32] : Fin 2 → IVec S_ 32) k (Shape.Idx.first h_S_)).toInt)
      sliceFits_S30x255_S1x255) shapeCasts_S1x255_S255 : IVec S255 32) (ix1 r) = x (ix2 ⟨j, hj⟩ r) := by
  rw [Host.dynamicSlice_eq_extractStridedSlice _ _ _ ![j, 0] _ (by
    refine ⟨rfl, fun a => ?_⟩
    match a with
    | ⟨0, _⟩ => show j + 1 ≤ 30; omega
    | ⟨1, _⟩ => show 0 + 255 ≤ 255; omega) fun a => by
    match a with
    | ⟨0, _⟩ => exact toInt_ofNat_of_lt (by omega)
    | ⟨1, _⟩ => rfl]
  pointwise

/-- The update of one row at the trip's number changes that row alone. -/
theorem update_row (o : FVec Ideal S30x255x2048 .f32) (u : FVec Ideal S255x2048 .f32) (hj : j < 30)
    (t : Fin 30) (r : Fin 255) (b : Fin 2048) :
    (Host.dynamicUpdateSlice o (broadcastInDim S1x255x2048 ![1, 2] bcast_S255x2048_S1x255x2048_1_2 u) (fun k =>
      ((![constantI S_ 32 (BitVec.ofNat 32 j), constantI S_ 32 0#32, constantI S_ 32 0#32] : Fin 3 → IVec S_ 32)
        k (Shape.Idx.first h_S_)).toInt) updateFits_S30x255x2048_S1x255x2048 : FVec Ideal S30x255x2048 .f32) (ix3 t r b)
      = if t.val = j then u (ix2 r b) else o (ix3 t r b) := by
  rw [Host.dynamicUpdateSlice_eq_updateSlice _ _ _ _ ![j, 0, 0] (fun a => by
    match a with
    | ⟨0, _⟩ =>
      show (min (max (BitVec.toInt (BitVec.ofNat 32 j)) 0) ((30 - 1 : ℕ) : ℤ)).toNat = j
      rw [toInt_ofNat_of_lt (by omega)]
      omega
    | ⟨1, _⟩ => rfl
    | ⟨2, _⟩ => rfl) (by
    refine ⟨rfl, fun a => ?_⟩
    match a with
    | ⟨0, _⟩ => show j + 1 ≤ 30; omega
    | ⟨1, _⟩ => show 0 + 255 ≤ 255; omega
    | ⟨2, _⟩ => show 0 + 2048 ≤ 2048; omega)]
  unfold updateSlice
  by_cases h : t.val = j
  · rw [if_pos h, dif_pos (fun a => by
      match a with
      | ⟨0, _⟩ => show j ≤ t.val ∧ t.val < j + 1; omega
      | ⟨1, _⟩ => show 0 ≤ r.val ∧ r.val < 0 + 255; omega
      | ⟨2, _⟩ => show 0 ≤ b.val ∧ b.val < 0 + 2048; omega)]
    refine congrArg u (funext fun a => ?_)
    match a with
    | ⟨0, _⟩ => rfl
    | ⟨1, _⟩ => rfl
  · rw [if_neg h, dif_neg]
    intro q
    have q0 : j ≤ t.val ∧ t.val < j + 1 := q 0
    omega

end Rows

end Cert.Proof.Ref
-- ==== Proof.RefRun.lean ====
/- The reference's run: after `n` trips of its loop the carried buffers hold the model's state, and the first `n` rows of
   the results its decisions. -/
module

public import proofs.«01_k».proof.Proof.RefTrip
public import proofs.«01_k».proof.Proof.Gen.ReferenceIdeal.Run

@[expose] public section

set_option maxRecDepth 16384

noncomputable section

namespace Cert.Proof.Ref

open Idealize.ShloMosaic Idealize.ShloMosaic.TcCoe Idealize.SL.Sem Idealize.ShloMosaic.StableHlo
open Cert.ReferenceIdeal Cert.ReferenceIdeal.Gen Cert.ReferenceIdeal.Value Cert.Proof.Bp

variable (V : Valuation τ sig (Elt Ideal))

/-! ### The carried buffers -/

/-- The channel values a trip starts from. -/
def curOf : FVec Ideal S255x2048 .f32 := V (Proc.devRef .tc main_v9_6)
/-- The extrinsic sums a trip starts from. -/
def extOf : FVec Ideal S255x2048 .f32 := V (Proc.devRef .tc main_v9_7)
/-- The results so far. -/
def outsOf : FVec Ideal S30x255x2048 .f32 := V (Proc.devRef .tc main_v9_8)
/-- The permutations. -/
def permsOf : IVec S30x255 32 := V (Proc.devRef .tc main_v9_0)
/-- The inverse permutations. -/
def invsOf : IVec S30x255 32 := V (Proc.devRef .tc main_v9_1)
/-- The damping factor. -/
def factorOf : FVec Ideal S_ .f32 := V (Proc.devRef .tc main_v9_2)
/-- The edges' variable nodes. -/
def varsOf : IVec S1024 32 := V (Proc.devRef .tc main_v9_3)
/-- The edges' check nodes. -/
def chksOf : IVec S1024 32 := V (Proc.devRef .tc main_v9_4)
/-- The trip's number. -/
def tripOf : IVec S_ 32 := V (Proc.devRef .tc main_v9_5)

/-! ### A trip's values -/

/-- The trip's channel values. -/
def newCur : FVec Ideal S255x2048 .f32 := res_main_while0b_v14 V
/-- The trip's decisions. -/
def newOut : FVec Ideal S255x2048 .f32 := res_main_while0b_v222 V
/-- The trip's permutation. -/
def permOf : IVec S255 32 := res_main_while0b_v10 V
/-- Its inverse. -/
def invOf : IVec S255 32 := res_main_while0b_v11 V

theorem first_msg : (res_main_while0b_v85 V : FVec Ideal S1024x2048 .f32)
    = hostIter (takeP (newCur V) (permOf V)) (varsOf V) (chksOf V) (full 0x00000000#32) := rfl

theorem second_msg : (res_main_while0b_v148 V : FVec Ideal S1024x2048 .f32)
    = hostIter (takeP (newCur V) (permOf V)) (varsOf V) (chksOf V) (res_main_while0b_v85 V) := rfl

theorem out_of_second : newOut V = takeP (addf (takeP (newCur V) (permOf V))
    (sumV (hostIter (takeP (newCur V) (permOf V)) (varsOf V) (chksOf V) (res_main_while0b_v148 V)) (varsOf V))) (invOf V) := rfl

theorem out_eq : newOut V = hostTurn (newCur V) (permOf V) (invOf V) (varsOf V) (chksOf V) := by
  rw [out_of_second, second_msg, first_msg]
  rfl

variable {a0 : FVec Ideal S255x2048 .f32} {a1 : FVec Ideal S1 .f32} {a2 a3 : IVec S1024 32} {a4 a5 : IVec S30x255 32}
  {β : ℝ} {x : Fin 2048 → ℕ → ℝ} {ev : Fin 1024 → Fin 255} {perm inv : Fin 30 → Fin 255 → Fin 255}

/-- After `n` trips the carried buffers hold the model's state, and the first `n` rows of the results its decisions. -/
structure Holds (V : Valuation τ sig (Elt Ideal)) (n : ℕ) (a2 a3 : IVec S1024 32) (a4 a5 : IVec S30x255 32)
    (β : ℝ) (e : ℕ → Fin 1024 → ℕ) (x : Fin 2048 → ℕ → ℝ) : Prop where
  vars : varsOf V = a2
  chks : chksOf V = a3
  perms : permsOf V = a4
  invs : invsOf V = a5
  factor : ∀ i, factorOf V i = ((β : ℝ) : EReal)
  trip : tripOf V = constantI S_ 32 (BitVec.ofNat 32 n)
  cur : Reads (curOf V) fun b r => (st β e (x b) n).1 r.val
  ext : Reads (extOf V) fun b r => (st β e (x b) n).2 r.val
  outs : ∀ (t : Fin 30) (r : Fin 255) (b : Fin 2048), t.val < n → outsOf V (ix3 t r b) = ((out β e (x b) t.val r.val : ℝ) : EReal)

/-- One trip: the next state of the model, and one more row of the results. -/
theorem holds_step (h : Inputs a0 a1 a2 a3 a4 a5 β x ev perm inv) (n : ℕ) (hj : n < 30)
    (q : Holds V n a2 a3 a4 a5 β (nodes perm ev) x) : Holds (STEP V) (n + 1) a2 a3 a4 a5 β (nodes perm ev) x := by
  have cur : Reads (newCur V) fun b r => damp β (st β (nodes perm ev) (x b) n) r.val := fun r b => by
    show curOf V (ix2 r b) + factorOf V _ * extOf V (ix2 r b) = ((_ + β * _ : ℝ) : EReal)
    rw [q.cur r b, q.ext r b, q.factor, EReal.coe_add, EReal.coe_mul]
  have hp : ∀ r : Fin 255, permOf V (ix1 r) = BitVec.ofNat 32 (perm ⟨n, hj⟩ r).val := fun r => by
    rw [← h.perms ⟨n, hj⟩ r, ← q.perms, ← slice_row n (permsOf V) hj r, ← q.trip]
    rfl
  have hi : ∀ r : Fin 255, invOf V (ix1 r) = BitVec.ofNat 32 (inv ⟨n, hj⟩ r).val := fun r => by
    rw [← h.invs ⟨n, hj⟩ r, ← q.invs, ← slice_row n (invsOf V) hj r, ← q.trip]
    rfl
  have turn := turn_real (varsOf V) (chksOf V) ev (fun i => (congrFun q.vars _).trans (h.vars i))
    (fun i => (congrFun q.chks _).trans (h.chks i)) (permOf V) (invOf V) (perm ⟨n, hj⟩) (inv ⟨n, hj⟩) hp hi
    (h.inverse ⟨n, hj⟩) (newCur V) (fun b => damp β (st β (nodes perm ev) (x b) n)) cur
  rw [← out_eq] at turn
  have en : (fun i => (perm ⟨n, hj⟩ (ev i)).val) = nodes perm ev n := funext fun i => (nodes_of_lt perm ev ⟨n, hj⟩ i).symm
  rw [en] at turn
  refine ⟨(STEP_main_v9_3 V).trans q.vars, (STEP_main_v9_4 V).trans q.chks, (STEP_main_v9_0 V).trans q.perms,
    (STEP_main_v9_1 V).trans q.invs, fun i => (congrFun (STEP_main_v9_2 V) i).trans (q.factor i), ?_, fun r b => ?_, fun r b => ?_,
    fun t r b k => ?_⟩
  · refine (STEP_main_v9_5 V).trans (show addi (tripOf V) (constantI S_ 32 1#32) = _ from ?_)
    rw [q.trip]
    funext i
    show BitVec.ofNat 32 n + 1#32 = BitVec.ofNat 32 (n + 1)
    exact (BitVec.ofNat_add n 1).symm
  · exact (congrFun (STEP_main_v9_6 V) _).trans (cur r b)
  · refine (congrFun (STEP_main_v9_7 V) _).trans (show newOut V (ix2 r b) - newCur V (ix2 r b) = _ from ?_)
    rw [turn r b, cur r b, ← EReal.coe_sub]
    exact congrArg Real.toEReal (add_sub_cancel_left _ _)
  · have u := update_row n (outsOf V) (newOut V) hj t r b
    rw [← q.trip] at u
    refine (congrFun (STEP_main_v9_8 V) _).trans (Eq.trans u ?_)
    by_cases w : t.val = n
    · rw [if_pos w, turn r b, w]
      rfl
    · rw [if_neg w]
      exact q.outs t r b (by omega)

/-! ### The run -/

/-- The damping factor, from its argument: the logistic function. -/
def logistic (a : FVec Ideal S1 .f32) : FVec Ideal S_ .f32 :=
  shapeCast S_ (Host.divf (broadcastInDim S1 ![] bcast_S_S1 (constant S_ .f32 0x3F800000#32))
    (addf (broadcastInDim S1 ![] bcast_S_S1 (constant S_ .f32 0x3F800000#32)) (Host.exp (Host.negf a)))) shapeCasts_S1_S_

theorem logistic_real (h : Inputs a0 a1 a2 a3 a4 a5 β x ev perm inv) (i : S_.Idx) : logistic a1 i = ((β : ℝ) : EReal) := by
  refine Eq.trans ?_ h.factor
  pointwise [logistic]

section Run

variable (m : (ℓ : Loc nD τ sig) → Buf (Elt Ideal) ℓ) (c : Dev nD)

/-- What the operations before the loop leave in the carried buffers. -/
structure Entry (V : Valuation τ sig (Elt Ideal)) : Prop where
  perms : permsOf V = m ((c.tc : Thread nD τ).loc main_arg4)
  invs : invsOf V = m ((c.tc : Thread nD τ).loc main_arg5)
  factor : factorOf V = logistic (m ((c.tc : Thread nD τ).loc main_arg1))
  vars : varsOf V = m ((c.tc : Thread nD τ).loc main_arg2)
  chks : chksOf V = m ((c.tc : Thread nD τ).loc main_arg3)
  trip : tripOf V = constantI S_ 32 0#32
  cur : curOf V = m ((c.tc : Thread nD τ).loc main_arg0)
  ext : extOf V = broadcastInDim S255x2048 ![] bcast_S_S255x2048 (constant S_ .f32 0x00000000#32)

set_option maxRecDepth 65536 in
set_option maxHeartbeats 400000 in
theorem entry : Entry m c (entryContents preI m c) := by
  constructor <;> (simp only [permsOf, invsOf, factorOf, varsOf, chksOf, tripOf, curOf, extOf, entryContents, afterL_cons, afterL_nil]
                   after_reads_simp) <;> rfl

/-- The model's starting state is in the carried buffers. -/
theorem holds_entry {V : Valuation τ sig (Elt Ideal)} (w : Entry m c V)
    (h : Inputs (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) β x ev perm inv) :
    Holds V 0 (m ((c.tc : Thread nD τ).loc main_arg2)) (m ((c.tc : Thread nD τ).loc main_arg3))
      (m ((c.tc : Thread nD τ).loc main_arg4)) (m ((c.tc : Thread nD τ).loc main_arg5)) β (nodes perm ev) x where
  vars := w.vars
  chks := w.chks
  perms := w.perms
  invs := w.invs
  factor i := (congrFun w.factor i).trans (logistic_real h i)
  trip := w.trip
  cur r b := (congrFun w.cur _).trans (h.value r b)
  ext r b := (congrFun w.ext _).trans lit_zero
  outs _ _ _ k := absurd k (Nat.not_lt_zero _)

/-- After `n` trips. -/
theorem holds (h : Inputs (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) β x ev perm inv) (n : ℕ) (hn : n ≤ 30) :
    Holds (STEP^[n] (entryContents preI m c)) n (m ((c.tc : Thread nD τ).loc main_arg2)) (m ((c.tc : Thread nD τ).loc main_arg3))
      (m ((c.tc : Thread nD τ).loc main_arg4)) (m ((c.tc : Thread nD τ).loc main_arg5)) β (nodes perm ev) x := by
  induction n with
  | zero => exact holds_entry m c (entry m c) h
  | succ n ih =>
    rw [Function.iterate_succ_apply']
    exact holds_step _ h n hn (ih (by omega))

end Run

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_decoder_inputs
public import proofs.«01_k».proof.Proof.Decode
public import proofs.«01_k».proof.Proof.KerHost
public import proofs.«01_k».proof.Proof.RefRun
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments alone, and has no semaphore that could end away from zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- After all trips the reference's result is the model's decisions. -/
theorem reference_value {V : Valuation Cert.ReferenceIdeal.τ Cert.ReferenceIdeal.sig (Elt Ideal)}
    {a2 a3 : IVec Cert.ReferenceIdeal.S1024 32} {a4 a5 : IVec Cert.ReferenceIdeal.S30x255 32} {β : ℝ}
    {e : ℕ → Fin 1024 → ℕ} {x : Fin 2048 → ℕ → ℝ} (h : Ref.Holds V 30 a2 a3 a4 a5 β e x) :
    Ref.outsOf V = Ker.decisions β e x := by
  refine funext fun y => ?_
  have e : y = ix3 (y 0) (y 1) (y 2) := funext fun a => by
    match a with
    | ⟨0, _⟩ => rfl
    | ⟨1, _⟩ => rfl
    | ⟨2, _⟩ => rfl
  exact (congrArg (Ref.outsOf V) e).trans (h.outs (y 0) (y 1) (y 2) (y 0).isLt)

/-- Kernel and reference end with the same result: the decisions of the model. -/
theorem values : Cert.algebraic_KernelIdeal_ReferenceIdeal_pre_decoder_inputs (hKernelIdeal := Cert.KernelIdeal.Gen.facts)
    (hReferenceIdeal := Cert.ReferenceIdeal.Gen.facts) (hPre_decoder_inputs := Cert.Pre_decoder_inputs.Gen.facts) := by
  intro m ρ m' ρ' hpre hagree
  choose β x ev perm inv hin using fun c => Bp.decode _ _ _ _ _ _ (hpre c)
  refine ⟨fun c => Ker.decisions (β c) (Bp.nodes (perm c) (ev c)) (x c),
    Ker.run ρ (fun c => Bp.nodes (perm c) (ev c)) β x fun c => Ker.found m c _ _ _ _ _ (hin c), ?_⟩
  refine (θ_run _ _ _).mono (fun _ h c => ⟨(h c).1.trans ?_, (h c).2⟩)
    (Cert.ReferenceIdeal.Value.run (F := Ideal) m' ρ')
  obtain ⟨e0, e1, e2, e3, e4, e5⟩ := hagree c
  refine reference_value (Ref.holds (β := β c) (x := x c) (ev := ev c) (perm := perm c) (inv := inv c) m' c ?_ 30 le_rfl)
  rw [e0, e1, e2, e3, e4, e5]
  exact hin c

theorem claim : Cert.Claim := ⟨Cert.Kernel.Gen.facts, Cert.KernelIdeal.Gen.facts, Cert.ReferenceIdeal.Gen.facts,
  Cert.Pre_decoder_inputs.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial, values⟩

end Cert.Proof

end
